-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)) (v4 : (c : Dev Cert.KernelIdeal.nD) → Buf (Elt Ideal) ((c.tc : Thread Cert.KernelIdeal.nD Cert.KernelIdeal.τ).loc Cert.KernelIdeal.main_v23_4)) (v5 : (c : Dev Cert.KernelIdeal.nD) → Buf (Elt Ideal) ((c.tc : Thread Cert.KernelIdeal.nD Cert.KernelIdeal.τ).loc Cert.KernelIdeal.main_v23_5)) (v6 : (c : Dev Cert.KernelIdeal.nD) → Buf (Elt Ideal) ((c.tc : Thread Cert.KernelIdeal.nD Cert.KernelIdeal.τ).loc Cert.KernelIdeal.main_v23_6)) (v7 : (c : Dev Cert.KernelIdeal.nD) → Buf (Elt Ideal) ((c.tc : Thread Cert.KernelIdeal.nD Cert.KernelIdeal.τ).loc Cert.KernelIdeal.main_v23_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_v23_4) = v4 c
          ∧ r.2.mem ((c.tc : Thread Cert.KernelIdeal.nD Cert.KernelIdeal.τ).loc Cert.KernelIdeal.main_v23_5) = v5 c
          ∧ r.2.mem ((c.tc : Thread Cert.KernelIdeal.nD Cert.KernelIdeal.τ).loc Cert.KernelIdeal.main_v23_6) = v6 c
          ∧ r.2.mem ((c.tc : Thread Cert.KernelIdeal.nD Cert.KernelIdeal.τ).loc Cert.KernelIdeal.main_v23_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v75) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v131) = v6 c
          ∧ r.2.mem ((c.tc : Thread Cert.ReferenceIdeal.nD Cert.ReferenceIdeal.τ).loc Cert.ReferenceIdeal.main_v140) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_v7) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v12) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v12) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v8_0)) (v1 : (c : Dev Cert.Kernel7Ideal.nD) → Buf (Elt Ideal) ((c.tc : Thread Cert.Kernel7Ideal.nD Cert.Kernel7Ideal.τ).loc Cert.Kernel7Ideal.main_v8_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8_0) = v0 c
          ∧ r.2.mem ((c.tc : Thread Cert.Kernel7Ideal.nD Cert.Kernel7Ideal.τ).loc Cert.Kernel7Ideal.main_v8_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v21) = v0 c
          ∧ r.2.mem ((c.tc : Thread Cert.Reference7Ideal.nD Cert.Reference7Ideal.τ).loc Cert.Reference7Ideal.main_v22) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_on_blocks [hKernel8Ideal : Cert.Kernel8Ideal.Facts] [hReference8Ideal : Cert.Reference8Ideal.Facts] [hOn_blocks : Cert.On_blocks.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v16_0)) (v1 : (c : Dev Cert.Kernel8Ideal.nD) → Buf (Elt Ideal) ((c.tc : Thread Cert.Kernel8Ideal.nD Cert.Kernel8Ideal.τ).loc Cert.Kernel8Ideal.main_v16_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          (∀ i : (⟨3, ![16, 128, 128]⟩ : Shape).Idx, (Cert.On_blocks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 i = 1#1 → r.2.mem ((c.tc : Thread Cert.Kernel8Ideal.nD Cert.Kernel8Ideal.τ).loc Cert.Kernel8Ideal.main_v16_0) i = v0 c i)
          ∧ (∀ i : (⟨3, ![16, 128, 128]⟩ : Shape).Idx, (Cert.On_blocks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2 i = 1#1 → r.2.mem ((c.tc : Thread Cert.Kernel8Ideal.nD Cert.Kernel8Ideal.τ).loc Cert.Kernel8Ideal.main_v16_1) i = v1 c i)
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          (∀ i : (⟨3, ![16, 128, 128]⟩ : Shape).Idx, (Cert.On_blocks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).1 i = 1#1 → r.2.mem ((c.tc : Thread Cert.Reference8Ideal.nD Cert.Reference8Ideal.τ).loc Cert.Reference8Ideal.main_v43) i = v0 c i)
          ∧ (∀ i : (⟨3, ![16, 128, 128]⟩ : Shape).Idx, (Cert.On_blocks.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7))).2 i = 1#1 → r.2.mem ((c.tc : Thread Cert.Reference8Ideal.nD Cert.Reference8Ideal.τ).loc Cert.Reference8Ideal.main_v78) i = v1 c i)
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v15) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hOn_blocks : Cert.On_blocks.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_on_blocks (hKernel8Ideal := hKernel8Ideal) (hReference8Ideal := hReference8Ideal) (hOn_blocks := hOn_blocks)
    ∧ preserves_Kernel9_Kernel9Ideal
    ∧ algebraic_Kernel9Ideal_Reference9Ideal (hKernel9Ideal := hKernel9Ideal) (hReference9Ideal := hReference9Ideal)
-- ==== On_blocks.lean ====
abbrev S4x4x128x2048 : Shape := ⟨4, ![4, 4, 128, 2048]⟩
abbrev S2x32x128 : Shape := ⟨3, ![2, 32, 128]⟩
abbrev S2x4096x256 : Shape := ⟨3, ![2, 4096, 256]⟩
abbrev S2x256x128 : Shape := ⟨3, ![2, 256, 128]⟩
abbrev S16x128x128 : Shape := ⟨3, ![16, 128, 128]⟩
abbrev S_ : Shape := ⟨0, ![]⟩

class Facts : Prop where
  bcast_S_S16x128x128 : S_.BroadcastsInDim S16x128x128 (![] : Fin 0 → Fin S16x128x128.rank)

variable [Facts]

def fn {F : FTy → Type} [FloatOps F] (main_arg0 : FVec F S4x4x128x2048 .f32) (main_arg1 : FVec F S4x4x128x2048 .f32) (main_arg2 : FVec F S2x32x128 .f32) (main_arg3 : FVec F S2x4096x256 .f32) (main_arg4 : FVec F S2x256x128 .f32) (main_arg5 : FVec F S2x32x128 .f32) (main_arg6 : FVec F S2x4096x256 .f32) (main_arg7 : FVec F S2x256x128 .f32) : IVec S16x128x128 1 × IVec S16x128x128 1 :=
  let main_v0 : IVec S16x128x128 32 := iotaInDim S16x128x128 32 1
  let main_c : IVec S_ 32 := constantI S_ 32 127#32
  let main_v1 : IVec S16x128x128 32 := broadcastInDim S16x128x128 ![] bcast_S_S16x128x128 main_c
  let main_v2 : IVec S16x128x128 1 := cmpi .slt main_v0 main_v1
  let main_c_0 : IVec S_ 32 := constantI S_ 32 127#32
  let main_v3 : IVec S16x128x128 32 := broadcastInDim S16x128x128 ![] bcast_S_S16x128x128 main_c_0
  let main_v4 : IVec S16x128x128 1 := cmpi .slt main_v0 main_v3
  (main_v2, main_v4)
-- ==== Kernel.lean ====
abbrev S8192x4096 : Shape := ⟨2, ![8192, 4096]⟩
abbrev S2x4096x13376 : Shape := ⟨3, ![2, 4096, 13376]⟩
abbrev S8192x5120 : Shape := ⟨2, ![8192, 5120]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S2x13376x4096 : Shape := ⟨3, ![2, 13376, 4096]⟩
abbrev S2x836x16x4096 : Shape := ⟨4, ![2, 836, 16, 4096]⟩
abbrev S8192x8192 : Shape := ⟨2, ![8192, 8192]⟩
abbrev S8192x2048 : Shape := ⟨2, ![8192, 2048]⟩
abbrev S4x4x128x2048 : Shape := ⟨4, ![4, 4, 128, 2048]⟩
abbrev S8192x512 : Shape := ⟨2, ![8192, 512]⟩
abbrev S8192x1024 : Shape := ⟨2, ![8192, 1024]⟩
abbrev S2048x4096 : Shape := ⟨2, ![2048, 4096]⟩
abbrev S1x32x16x4096 : Shape := ⟨4, ![1, 32, 16, 4096]⟩
abbrev S128x2048 : Shape := ⟨2, ![128, 2048]⟩
abbrev S128x512 : Shape := ⟨2, ![128, 512]⟩
abbrev S128x128 : Shape := ⟨2, ![128, 128]⟩
abbrev S2048x512 : Shape := ⟨2, ![2048, 512]⟩
abbrev S1x4x8x2048 : Shape := ⟨4, ![1, 4, 8, 2048]⟩
abbrev S128x1024 : Shape := ⟨2, ![128, 1024]⟩
abbrev S512x4096 : Shape := ⟨2, ![512, 4096]⟩
abbrev S8x128 : Shape := ⟨2, ![8, 128]⟩
abbrev S1x1x8x128 : Shape := ⟨4, ![1, 1, 8, 128]⟩

abbrev nBuf : Space → Nat
  | .hbm => 38
  | .vmem => 39
  | .smem => 0
  | _ => 0

abbrev bufTy : (tb : Table) → Fin (tcTables nBuf tb) → BufTy
  | .hbm, ⟨0, _⟩ => ⟨S8192x4096, .bf16⟩
  | .hbm, ⟨1, _⟩ => ⟨S2x4096x13376, .f32⟩
  | .hbm, ⟨2, _⟩ => ⟨S8192x5120, .f32⟩
  | .hbm, ⟨3, _⟩ => ⟨S64, .f32⟩
  | .hbm, ⟨4, _⟩ => ⟨S_, .f32⟩
  | .hbm, ⟨5, _⟩ => ⟨S64, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S2048, .f32⟩
  | .hbm, ⟨18, _⟩ => ⟨S2048x1, .f32⟩
  | .hbm, ⟨19, _⟩ => ⟨S1x64, .f32⟩
  | .hbm, ⟨20, _⟩ => ⟨S2048x64, .f32⟩
  | .hbm, ⟨21, _⟩ => ⟨S2048x64, .f32⟩
  | .hbm, ⟨22, _⟩ => ⟨S2048x64, .f32⟩
  | .hbm, ⟨23, _⟩ => ⟨S2048x64, .f32⟩
  | .hbm, ⟨24, _⟩ => ⟨S2048x64, .f32⟩
  | .hbm, ⟨25, _⟩ => ⟨S2048x128, .f32⟩
  | .hbm, ⟨26, _⟩ => ⟨S2048x64, .f32⟩
  | .hbm, ⟨27, _⟩ => ⟨S2048x128, .f32⟩
  | .hbm, ⟨28, _⟩ => ⟨S2x13376x4096, .f32⟩
  | .hbm, ⟨29, _⟩ => ⟨S2x836x16x4096, .f32⟩
  | .hbm, ⟨30, _⟩ => ⟨S8192x8192, .f32⟩
  | .hbm, ⟨31, _⟩ => ⟨S8192x2048, .bf16⟩
  | .hbm, ⟨32, _⟩ => ⟨S4x4x128x2048, .f32⟩
  | .hbm, ⟨33, _⟩ => ⟨S4x4x128x2048, .f32⟩
  | .hbm, ⟨34, _⟩ => ⟨S8192x512, .bf16⟩
  | .hbm, ⟨35, _⟩ => ⟨S8192x1024, .bf16⟩
  | .hbm, ⟨36, _⟩ => ⟨S8192x512, .bf16⟩
  | .hbm, ⟨37, _⟩ => ⟨S8192x1024, .bf16⟩
  | .local _ .vmem, ⟨0, _⟩ => ⟨S2048x4096, .bf16⟩
  | .local _ .vmem, ⟨1, _⟩ => ⟨S1x32x16x4096, .f32⟩
  | .local _ .vmem, ⟨2, _⟩ => ⟨S1x32x16x4096, .f32⟩
  | .local _ .vmem, ⟨3, _⟩ => ⟨S128x2048, .f32⟩
  | .local _ .vmem, ⟨4, _⟩ => ⟨S128x2048, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x512, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S2048x512, .f32⟩
  | .local _ .vmem, ⟨22, _⟩ => ⟨S2048x512, .f32⟩
  | .local _ .vmem, ⟨23, _⟩ => ⟨S128x2048, .bf16⟩
  | .local _ .vmem, ⟨24, _⟩ => ⟨S128x2048, .bf16⟩
  | .local _ .vmem, ⟨25, _⟩ => ⟨S1x4x8x2048, .f32⟩
  | .local _ .vmem, ⟨26, _⟩ => ⟨S1x4x8x2048, .f32⟩
  | .local _ .vmem, ⟨27, _⟩ => ⟨S1x4x8x2048, .f32⟩
  | .local _ .vmem, ⟨28, _⟩ => ⟨S1x4x8x2048, .f32⟩
  | .local _ .vmem, ⟨29, _⟩ => ⟨S128x512, .bf16⟩
  | .local _ .vmem, ⟨30, _⟩ => ⟨S128x512, .bf16⟩
  | .local _ .vmem, ⟨31, _⟩ => ⟨S128x1024, .bf16⟩
  | .local _ .vmem, ⟨32, _⟩ => ⟨S128x1024, .bf16⟩
  | .local _ .vmem, ⟨33, _⟩ => ⟨S128x512, .bf16⟩
  | .local _ .vmem, ⟨34, _⟩ => ⟨S128x512, .bf16⟩
  | .local _ .vmem, ⟨35, _⟩ => ⟨S128x1024, .bf16⟩
  | .local _ .vmem, ⟨36, _⟩ => ⟨S128x1024, .bf16⟩
  | .local _ .vmem, ⟨37, _⟩ => ⟨S512x4096, .bf16⟩
  | .local _ .vmem, ⟨38, _⟩ => ⟨S128x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev main_v23_2 : Ref sig .tc := ⟨.hbm, 32, rfl⟩
abbrev main_v23_3 : Ref sig .tc := ⟨.hbm, 33, rfl⟩
abbrev main_v23_4 : Ref sig .tc := ⟨.hbm, 34, rfl⟩
abbrev main_v23_5 : Ref sig .tc := ⟨.hbm, 35, rfl⟩
abbrev main_v23_6 : Ref sig .tc := ⟨.hbm, 36, rfl⟩
abbrev main_v23_7 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_scratch0 : Ref sig .tc := ⟨.vmem, 37, rfl⟩
abbrev cc0_scratch1 : Ref sig .tc := ⟨.vmem, 38, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let c0_i32 : BitVec 32 := 0#32
  let c0_i32_0 : BitVec 32 := 0#32
  let c0_i32_1 : BitVec 32 := 0#32
  ![c1_i32.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c4_i32 : BitVec 32 := 4#32
  let c0_i32 : BitVec 32 := 0#32
  ![v1.toNat, c4_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c5_i32 : BitVec 32 := 5#32
  let c0_i32 : BitVec 32 := 0#32
  ![v1.toNat, c5_i32.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c6_i32 : BitVec 32 := 6#32
  let c0_i32 : BitVec 32 := 0#32
  ![v1.toNat, c6_i32.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c7_i32 : BitVec 32 := 7#32
  let c0_i32 : BitVec 32 := 0#32
  ![v1.toNat, c7_i32.toNat]

def cc0_transform_7 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  let v2 : BitVec 1 := Scalar.cmpi .eq c16_i32_0 c0_i32
  let c1_i32 : BitVec 32 := 1#32
  let v3 : BitVec 32 := Scalar.select v2 c1_i32 c16_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  let v2 : BitVec 1 := Scalar.cmpi .eq c16_i32_0 c0_i32
  let c1_i32 : BitVec 32 := 1#32
  let v3 : BitVec 32 := Scalar.select v2 c1_i32 c16_i32_0
  let v4 : BitVec 32 := Scalar.remsi v1 v3
  let c0_i32_1 : BitVec 32 := 0#32
  let v5 : BitVec 1 := Scalar.cmpi .ne v4 c0_i32_1
  let c0_i32_2 : BitVec 32 := 0#32
  let v6 : BitVec 1 := Scalar.cmpi .slt v4 c0_i32_2
  let c0_i32_3 : BitVec 32 := 0#32
  let v7 : BitVec 1 := Scalar.cmpi .slt v3 c0_i32_3
  let v8 : BitVec 1 := Scalar.xori v6 v7
  let v9 : BitVec 1 := Scalar.andi v8 v5
  let v10 : BitVec 32 := Scalar.addi v4 v3
  let v11 : BitVec 32 := Scalar.select v9 v10 v4
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.divsi v1 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32_0 c0_i32_2
  let v9 : BitVec 32 := Scalar.extui v8
  let c0_i32_3 : BitVec 32 := 0#32
  let v10 : BitVec 1 := Scalar.cmpi .slt c16_i32_0 c0_i32_3
  let v11 : BitVec 32 := Scalar.extui v10
  let v12 : BitVec 32 := Scalar.subi v9 v11
  let v13 : BitVec 1 := Scalar.cmpi .ne v7 v12
  let v14 : BitVec 32 := Scalar.remsi v1 c16_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let v19 : BitVec 32 := Scalar.muli arg0 c16_i32_5
  let v20 : BitVec 32 := Scalar.addi v19 arg1
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, c0_i32_12.toNat, v30.toNat, c0_i32_13.toNat]

def cc0_transform_14 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let v2 : BitVec 32 := Scalar.divsi v1 c16_i32_0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32_0 c0_i32_2
  let v9 : BitVec 32 := Scalar.extui v8
  let c0_i32_3 : BitVec 32 := 0#32
  let v10 : BitVec 1 := Scalar.cmpi .slt c16_i32_0 c0_i32_3
  let v11 : BitVec 32 := Scalar.extui v10
  let v12 : BitVec 32 := Scalar.subi v9 v11
  let v13 : BitVec 1 := Scalar.cmpi .ne v7 v12
  let v14 : BitVec 32 := Scalar.remsi v1 c16_i32_0
  let c0_i32_4 : BitVec 32 := 0#32
  let v15 : BitVec 1 := Scalar.cmpi .ne v14 c0_i32_4
  let v16 : BitVec 1 := Scalar.andi v13 v15
  let c1_i32 : BitVec 32 := 1#32
  let v17 : BitVec 32 := Scalar.subi v2 c1_i32
  let v18 : BitVec 32 := Scalar.select v16 v17 v2
  let c16_i32_5 : BitVec 32 := 16#32
  let v19 : BitVec 32 := Scalar.muli arg0 c16_i32_5
  let v20 : BitVec 32 := Scalar.addi v19 arg1
  let c16_i32_6 : BitVec 32 := 16#32
  let c0_i32_7 : BitVec 32 := 0#32
  let v21 : BitVec 1 := Scalar.cmpi .eq c16_i32_6 c0_i32_7
  let c1_i32_8 : BitVec 32 := 1#32
  let v22 : BitVec 32 := Scalar.select v21 c1_i32_8 c16_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, c0_i32_12.toNat, v30.toNat, c0_i32_13.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x32x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x8x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x8x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== ReferenceIdeal.lean ====
abbrev S8192x4096 : Shape := ⟨2, ![8192, 4096]⟩
abbrev S2x4096x13376 : Shape := ⟨3, ![2, 4096, 13376]⟩
abbrev S8192x5120 : Shape := ⟨2, ![8192, 5120]⟩
abbrev S1x4096x13376 : Shape := ⟨3, ![1, 4096, 13376]⟩
abbrev S4096x13376 : Shape := ⟨2, ![4096, 13376]⟩
abbrev S8192x13376 : Shape := ⟨2, ![8192, 13376]⟩
abbrev S8192x8192 : Shape := ⟨2, ![8192, 8192]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S8192x2048 : Shape := ⟨2, ![8192, 2048]⟩
abbrev S8192x512 : Shape := ⟨2, ![8192, 512]⟩
abbrev S4x2048x16x128 : Shape := ⟨4, ![4, 2048, 16, 128]⟩
abbrev S4x2048x16x64 : Shape := ⟨4, ![4, 2048, 16, 64]⟩
abbrev S2048x1x64 : Shape := ⟨3, ![2048, 1, 64]⟩
abbrev S1x2048x1x64 : Shape := ⟨4, ![1, 2048, 1, 64]⟩
abbrev S4x2048x4x128 : Shape := ⟨4, ![4, 2048, 4, 128]⟩
abbrev S4x2048x4x64 : Shape := ⟨4, ![4, 2048, 4, 64]⟩
abbrev S4x4x2048x128 : Shape := ⟨4, ![4, 4, 2048, 128]⟩
abbrev S4x4x128x2048 : Shape := ⟨4, ![4, 4, 128, 2048]⟩
abbrev S8192x4x128 : Shape := ⟨3, ![8192, 4, 128]⟩
abbrev S128 : Shape := ⟨1, ![128]⟩
abbrev S8192x4x256 : Shape := ⟨3, ![8192, 4, 256]⟩
abbrev S8192x1024 : Shape := ⟨2, ![8192, 1024]⟩

abbrev nBuf : Space → Nat
  | .hbm => 151
  | .vmem => 0
  | .smem => 0
  | _ => 0

abbrev hbmTy0_0 (i : Nat) : BufTy := match i % 128 with
  | 0 => ⟨S8192x4096, .bf16⟩
  | 1 => ⟨S2x4096x13376, .f32⟩
  | 2 => ⟨S8192x5120, .f32⟩
  | 3 => ⟨S8192x4096, .f32⟩
  | 4 => ⟨S1x4096x13376, .f32⟩
  | 5 => ⟨S4096x13376, .f32⟩
  | 6 => ⟨S8192x13376, .f32⟩
  | 7 => ⟨S8192x8192, .f32⟩
  | 8 => ⟨S64, .f32⟩
  | 9 => ⟨S_, .f32⟩
  | 10 => ⟨S64, .f32⟩
  | 11 => ⟨S64, .f32⟩
  | 12 => ⟨S_, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S_, .f32⟩
  | 20 => ⟨S64, .f32⟩
  | 21 => ⟨S64, .f32⟩
  | 22 => ⟨S2048, .f32⟩
  | 23 => ⟨S2048x1, .f32⟩
  | 24 => ⟨S1x64, .f32⟩
  | 25 => ⟨S2048x64, .f32⟩
  | 26 => ⟨S2048x64, .f32⟩
  | 27 => ⟨S2048x64, .f32⟩
  | 28 => ⟨S2048x64, .f32⟩
  | 29 => ⟨S2048x64, .f32⟩
  | 30 => ⟨S8192x2048, .f32⟩
  | 31 => ⟨S8192x512, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S4x2048x16x128, .f32⟩
  | 38 => ⟨S4x2048x16x64, .f32⟩
  | 39 => ⟨S4x2048x16x64, .f32⟩
  | 40 => ⟨S2048x1x64, .f32⟩
  | 41 => ⟨S2048x1x64, .f32⟩
  | 42 => ⟨S1x2048x1x64, .f32⟩
  | 43 => ⟨S4x2048x16x64, .f32⟩
  | 44 => ⟨S4x2048x16x64, .f32⟩
  | 45 => ⟨S1x2048x1x64, .f32⟩
  | 46 => ⟨S4x2048x16x64, .f32⟩
  | 47 => ⟨S4x2048x16x64, .f32⟩
  | 48 => ⟨S4x2048x16x64, .f32⟩
  | 49 => ⟨S1x2048x1x64, .f32⟩
  | 50 => ⟨S4x2048x16x64, .f32⟩
  | 51 => ⟨S4x2048x16x64, .f32⟩
  | 52 => ⟨S1x2048x1x64, .f32⟩
  | 53 => ⟨S4x2048x16x64, .f32⟩
  | 54 => ⟨S4x2048x16x64, .f32⟩
  | 55 => ⟨S4x2048x16x64, .f32⟩
  | 56 => ⟨S4x2048x16x128, .f32⟩
  | 57 => ⟨S_, .f32⟩
  | 58 => ⟨S4x2048x16x128, .f32⟩
  | 59 => ⟨S4x2048x16x128, .f32⟩
  | 60 => ⟨S8192x2048, .f32⟩
  | 61 => ⟨S8192x2048, .bf16⟩
  | 62 => ⟨S4x2048x4x128, .f32⟩
  | 63 => ⟨S4x2048x4x64, .f32⟩
  | 64 => ⟨S4x2048x4x64, .f32⟩
  | 65 => ⟨S2048x1x64, .f32⟩
  | 66 => ⟨S2048x1x64, .f32⟩
  | 67 => ⟨S1x2048x1x64, .f32⟩
  | 68 => ⟨S4x2048x4x64, .f32⟩
  | 69 => ⟨S4x2048x4x64, .f32⟩
  | 70 => ⟨S1x2048x1x64, .f32⟩
  | 71 => ⟨S4x2048x4x64, .f32⟩
  | 72 => ⟨S4x2048x4x64, .f32⟩
  | 73 => ⟨S4x2048x4x64, .f32⟩
  | 74 => ⟨S1x2048x1x64, .f32⟩
  | 75 => ⟨S4x2048x4x64, .f32⟩
  | 76 => ⟨S4x2048x4x64, .f32⟩
  | 77 => ⟨S1x2048x1x64, .f32⟩
  | 78 => ⟨S4x2048x4x64, .f32⟩
  | 79 => ⟨S4x2048x4x64, .f32⟩
  | 80 => ⟨S4x2048x4x64, .f32⟩
  | 81 => ⟨S4x2048x4x128, .f32⟩
  | 82 => ⟨S4x4x2048x128, .f32⟩
  | 83 => ⟨S4x4x128x2048, .f32⟩
  | 84 => ⟨S4x2048x4x128, .f32⟩
  | 85 => ⟨S4x4x2048x128, .f32⟩
  | 86 => ⟨S4x4x128x2048, .f32⟩
  | 87 => ⟨S4x2048x4x128, .f32⟩
  | 88 => ⟨S4x2048x4x64, .f32⟩
  | 89 => ⟨S4x2048x4x64, .f32⟩
  | 90 => ⟨S2048x1x64, .f32⟩
  | 91 => ⟨S2048x1x64, .f32⟩
  | 92 => ⟨S1x2048x1x64, .f32⟩
  | 93 => ⟨S4x2048x4x64, .f32⟩
  | 94 => ⟨S4x2048x4x64, .f32⟩
  | 95 => ⟨S1x2048x1x64, .f32⟩
  | 96 => ⟨S4x2048x4x64, .f32⟩
  | 97 => ⟨S4x2048x4x64, .f32⟩
  | 98 => ⟨S4x2048x4x64, .f32⟩
  | 99 => ⟨S1x2048x1x64, .f32⟩
  | 100 => ⟨S4x2048x4x64, .f32⟩
  | 101 => ⟨S4x2048x4x64, .f32⟩
  | 102 => ⟨S1x2048x1x64, .f32⟩
  | 103 => ⟨S4x2048x4x64, .f32⟩
  | 104 => ⟨S4x2048x4x64, .f32⟩
  | 105 => ⟨S4x2048x4x64, .f32⟩
  | 106 => ⟨S4x2048x4x128, .f32⟩
  | 107 => ⟨S8192x512, .f32⟩
  | 108 => ⟨S8192x512, .bf16⟩
  | 109 => ⟨S8192x4x128, .f32⟩
  | 110 => ⟨S128, .i32⟩
  | 111 => ⟨S_, .i32⟩
  | 112 => ⟨S128, .i32⟩
  | 113 => ⟨S128, .i1⟩
  | 114 => ⟨S128, .f32⟩
  | 115 => ⟨S8192x4x128, .f32⟩
  | 116 => ⟨S8192x4x256, .f32⟩
  | 117 => ⟨S8192x1024, .f32⟩
  | 118 => ⟨S8192x1024, .bf16⟩
  | 119 => ⟨S4x2048x4x128, .f32⟩
  | 120 => ⟨S4x2048x4x64, .f32⟩
  | 121 => ⟨S4x2048x4x64, .f32⟩
  | 122 => ⟨S2048x1x64, .f32⟩
  | 123 => ⟨S2048x1x64, .f32⟩
  | 124 => ⟨S1x2048x1x64, .f32⟩
  | 125 => ⟨S4x2048x4x64, .f32⟩
  | 126 => ⟨S4x2048x4x64, .f32⟩
  | 127 => ⟨S1x2048x1x64, .f32⟩
  | _ => ⟨S8192x4096, .bf16⟩

abbrev hbmTy0_1 (i : Nat) : BufTy := match i % 128 with
  | 0 => ⟨S4x2048x4x64, .f32⟩
  | 1 => ⟨S4x2048x4x64, .f32⟩
  | 2 => ⟨S4x2048x4x64, .f32⟩
  | 3 => ⟨S1x2048x1x64, .f32⟩
  | 4 => ⟨S4x2048x4x64, .f32⟩
  | 5 => ⟨S4x2048x4x64, .f32⟩
  | 6 => ⟨S1x2048x1x64, .f32⟩
  | 7 => ⟨S4x2048x4x64, .f32⟩
  | 8 => ⟨S4x2048x4x64, .f32⟩
  | 9 => ⟨S4x2048x4x64, .f32⟩
  | 10 => ⟨S4x2048x4x128, .f32⟩
  | 11 => ⟨S8192x512, .f32⟩
  | 12 => ⟨S8192x512, .bf16⟩
  | 13 => ⟨S8192x4x128, .f32⟩
  | 14 => ⟨S128, .i32⟩
  | 15 => ⟨S_, .i32⟩
  | 16 => ⟨S128, .i32⟩
  | 17 => ⟨S128, .i1⟩
  | 18 => ⟨S128, .f32⟩
  | 19 => ⟨S8192x4x128, .f32⟩
  | 20 => ⟨S8192x4x256, .f32⟩
  | 21 => ⟨S8192x1024, .f32⟩
  | 22 => ⟨S8192x1024, .bf16⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_3 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_c : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_c_4 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩

abbrev nD : Nat := 1
abbrev τ : Topo := Topo.v7x

variable {F : FTy → Type} [FloatOps F]
-- ==== Kernel2.lean ====
abbrev S8192x4096 : Shape := ⟨2, ![8192, 4096]⟩
abbrev S2x4096x13376 : Shape := ⟨3, ![2, 4096, 13376]⟩
abbrev S2x4096x4096 : Shape := ⟨3, ![2, 4096, 4096]⟩
abbrev S2x13376x4096 : Shape := ⟨3, ![2, 13376, 4096]⟩
abbrev S2x836x16x4096 : Shape := ⟨4, ![2, 836, 16, 4096]⟩
abbrev S8192x5120 : Shape := ⟨2, ![8192, 5120]⟩
abbrev S4096x4096 : Shape := ⟨2, ![4096, 4096]⟩
abbrev S2048x4096 : Shape := ⟨2, ![2048, 4096]⟩
abbrev S1x32x16x4096 : Shape := ⟨4, ![1, 32, 16, 4096]⟩
abbrev S1x128x4096 : Shape := ⟨3, ![1, 128, 4096]⟩
abbrev S2048x512 : Shape := ⟨2, ![2048, 512]⟩
abbrev S128x4096 : Shape := ⟨2, ![128, 4096]⟩
abbrev S512x4096 : Shape := ⟨2, ![512, 4096]⟩

abbrev nBuf : Space → Nat
  | .hbm => 7
  | .vmem => 10
  | .smem => 0
  | _ => 0

abbrev bufTy : (tb : Table) → Fin (tcTables nBuf tb) → BufTy
  | .hbm, ⟨0, _⟩ => ⟨S8192x4096, .bf16⟩
  | .hbm, ⟨1, _⟩ => ⟨S2x4096x13376, .f32⟩
  | .hbm, ⟨2, _⟩ => ⟨S2x4096x4096, .f32⟩
  | .hbm, ⟨3, _⟩ => ⟨S2x13376x4096, .f32⟩
  | .hbm, ⟨4, _⟩ => ⟨S2x836x16x4096, .f32⟩
  | .hbm, ⟨5, _⟩ => ⟨S8192x5120, .f32⟩
  | .hbm, ⟨6, _⟩ => ⟨S4096x4096, .bf16⟩
  | .local _ .vmem, ⟨0, _⟩ => ⟨S2048x4096, .bf16⟩
  | .local _ .vmem, ⟨1, _⟩ => ⟨S1x32x16x4096, .f32⟩
  | .local _ .vmem, ⟨2, _⟩ => ⟨S1x32x16x4096, .f32⟩
  | .local _ .vmem, ⟨3, _⟩ => ⟨S1x128x4096, .f32⟩
  | .local _ .vmem, ⟨4, _⟩ => ⟨S1x128x4096, .f32⟩
  | .local _ .vmem, ⟨5, _⟩ => ⟨S2048x512, .f32⟩
  | .local _ .vmem, ⟨6, _⟩ => ⟨S2048x512, .f32⟩
  | .local _ .vmem, ⟨7, _⟩ => ⟨S128x4096, .bf16⟩
  | .local _ .vmem, ⟨8, _⟩ => ⟨S128x4096, .bf16⟩
  | .local _ .vmem, ⟨9, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c513_i32 : BitVec 32 := 513#32
  let v1 : BitVec 32 := Scalar.addi c513_i32 v0
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c31_i32 : BitVec 32 := 31#32
  let v2 : BitVec 32 := Scalar.minsi v1 c31_i32
  let c1_i32 : BitVec 32 := 1#32
  let c0_i32 : BitVec 32 := 0#32
  let c0_i32_0 : BitVec 32 := 0#32
  ![c1_i32.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.muli arg0 c10_i32
  let v1 : BitVec 32 := Scalar.addi v0 arg1
  let c31_i32 : BitVec 32 := 31#32
  let v2 : BitVec 32 := Scalar.minsi v1 c31_i32
  let c0_i32 : BitVec 32 := 0#32
  let c0_i32_0 : BitVec 32 := 0#32
  ![v2.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x32x16x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x4096 : Shape := ⟨2, ![8192, 4096]⟩
abbrev S2x4096x13376 : Shape := ⟨3, ![2, 4096, 13376]⟩
abbrev S2x4096x4096 : Shape := ⟨3, ![2, 4096, 4096]⟩
abbrev S1x4096x13376 : Shape := ⟨3, ![1, 4096, 13376]⟩
abbrev S4096x13376 : Shape := ⟨2, ![4096, 13376]⟩
abbrev S8192x13376 : Shape := ⟨2, ![8192, 13376]⟩
abbrev S8192x5120 : Shape := ⟨2, ![8192, 5120]⟩
abbrev S1x4096x4096 : Shape := ⟨3, ![1, 4096, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x13376, .f32⟩
  | .hbm, ⟨2, _⟩ => ⟨S2x4096x4096, .f32⟩
  | .hbm, ⟨3, _⟩ => ⟨S8192x4096, .f32⟩
  | .hbm, ⟨4, _⟩ => ⟨S1x4096x13376, .f32⟩
  | .hbm, ⟨5, _⟩ => ⟨S4096x13376, .f32⟩
  | .hbm, ⟨6, _⟩ => ⟨S8192x13376, .f32⟩
  | .hbm, ⟨7, _⟩ => ⟨S8192x5120, .f32⟩
  | .hbm, ⟨8, _⟩ => ⟨S1x4096x4096, .f32⟩
  | .hbm, ⟨9, _⟩ => ⟨S4096x4096, .f32⟩
  | .hbm, ⟨10, _⟩ => ⟨S4096x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel3.lean ====
abbrev S8192x1024 : Shape := ⟨2, ![8192, 1024]⟩
abbrev S8192x2048 : Shape := ⟨2, ![8192, 2048]⟩
abbrev S4096x4096 : Shape := ⟨2, ![4096, 4096]⟩
abbrev S8192x4096 : Shape := ⟨2, ![8192, 4096]⟩
abbrev S2048x1024 : Shape := ⟨2, ![2048, 1024]⟩
abbrev S2048x2048 : Shape := ⟨2, ![2048, 2048]⟩
abbrev S4096x512 : Shape := ⟨2, ![4096, 512]⟩
abbrev S2048x512 : Shape := ⟨2, ![2048, 512]⟩
abbrev S1024x512 : Shape := ⟨2, ![1024, 512]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S4096x4096, .bf16⟩
  | .hbm, ⟨4, _⟩ => ⟨S8192x4096, .f32⟩
  | .hbm, ⟨5, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S4096x512, .bf16⟩
  | .local _ .vmem, ⟨4, _⟩ => ⟨S4096x512, .bf16⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8192x1024 : Shape := ⟨2, ![8192, 1024]⟩
abbrev S8192x2048 : Shape := ⟨2, ![8192, 2048]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x2048, .bf16⟩
  | .hbm, ⟨3, _⟩ => ⟨S4096x4096, .bf16⟩
  | .hbm, ⟨4, _⟩ => ⟨S8192x4096, .f32⟩
  | .hbm, ⟨5, _⟩ => ⟨S8192x4096, .bf16⟩
  | .hbm, ⟨6, _⟩ => ⟨S8192x4096, .f32⟩
  | .hbm, ⟨7, _⟩ => ⟨S4096x4096, .f32⟩
  | .hbm, ⟨8, _⟩ => ⟨S8192x4096, .f32⟩
  | .hbm, ⟨9, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel4.lean ====
abbrev S8192x4096 : Shape := ⟨2, ![8192, 4096]⟩
abbrev S2x4096x11008 : Shape := ⟨3, ![2, 4096, 11008]⟩
abbrev S2x11008x4096 : Shape := ⟨3, ![2, 11008, 4096]⟩
abbrev S8192x11008 : Shape := ⟨2, ![8192, 11008]⟩
abbrev S11008x4096 : Shape := ⟨2, ![11008, 4096]⟩
abbrev S2048x4096 : Shape := ⟨2, ![2048, 4096]⟩
abbrev S1x4096x256 : Shape := ⟨3, ![1, 4096, 256]⟩
abbrev S1x64x4096 : Shape := ⟨3, ![1, 64, 4096]⟩
abbrev S2048x256 : Shape := ⟨2, ![2048, 256]⟩
abbrev S64x4096 : Shape := ⟨2, ![64, 4096]⟩
abbrev S4096x256 : Shape := ⟨2, ![4096, 256]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S8192x11008, .bf16⟩
  | .hbm, ⟨5, _⟩ => ⟨S11008x4096, .bf16⟩
  | .local _ .vmem, ⟨0, _⟩ => ⟨S2048x4096, .bf16⟩
  | .local _ .vmem, ⟨1, _⟩ => ⟨S1x4096x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x64x4096, .f32⟩
  | .local _ .vmem, ⟨6, _⟩ => ⟨S1x64x4096, .f32⟩
  | .local _ .vmem, ⟨7, _⟩ => ⟨S2048x256, .bf16⟩
  | .local _ .vmem, ⟨8, _⟩ => ⟨S2048x256, .bf16⟩
  | .local _ .vmem, ⟨9, _⟩ => ⟨S64x4096, .bf16⟩
  | .local _ .vmem, ⟨10, _⟩ => ⟨S64x4096, .bf16⟩
  | .local _ .vmem, ⟨11, _⟩ => ⟨S4096x256, .bf16⟩
  | .local _ .vmem, ⟨12, _⟩ => ⟨S4096x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c1_i32 : BitVec 32 := 1#32
  let c0_i32 : BitVec 32 := 0#32
  let c0_i32_0 : BitVec 32 := 0#32
  ![c1_i32.toNat, v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c43_i32 : BitVec 32 := 43#32
  let v0 : BitVec 32 := Scalar.muli arg0 c43_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8192x4096 : Shape := ⟨2, ![8192, 4096]⟩
abbrev S2x4096x11008 : Shape := ⟨3, ![2, 4096, 11008]⟩
abbrev S2x11008x4096 : Shape := ⟨3, ![2, 11008, 4096]⟩
abbrev S1x4096x11008 : Shape := ⟨3, ![1, 4096, 11008]⟩
abbrev S4096x11008 : Shape := ⟨2, ![4096, 11008]⟩
abbrev S8192x11008 : Shape := ⟨2, ![8192, 11008]⟩
abbrev S_ : Shape := ⟨0, ![]⟩
abbrev S1x11008x4096 : Shape := ⟨3, ![1, 11008, 4096]⟩
abbrev S11008x4096 : Shape := ⟨2, ![11008, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x11008, .f32⟩
  | .hbm, ⟨2, _⟩ => ⟨S2x4096x11008, .f32⟩
  | .hbm, ⟨3, _⟩ => ⟨S2x11008x4096, .f32⟩
  | .hbm, ⟨4, _⟩ => ⟨S8192x4096, .f32⟩
  | .hbm, ⟨5, _⟩ => ⟨S1x4096x11008, .f32⟩
  | .hbm, ⟨6, _⟩ => ⟨S4096x11008, .f32⟩
  | .hbm, ⟨7, _⟩ => ⟨S8192x11008, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S_, .f32⟩
  | .hbm, ⟨14, _⟩ => ⟨S8192x11008, .f32⟩
  | .hbm, ⟨15, _⟩ => ⟨S8192x11008, .f32⟩
  | .hbm, ⟨16, _⟩ => ⟨S8192x11008, .f32⟩
  | .hbm, ⟨17, _⟩ => ⟨S1x4096x11008, .f32⟩
  | .hbm, ⟨18, _⟩ => ⟨S4096x11008, .f32⟩
  | .hbm, ⟨19, _⟩ => ⟨S8192x11008, .f32⟩
  | .hbm, ⟨20, _⟩ => ⟨S8192x11008, .f32⟩
  | .hbm, ⟨21, _⟩ => ⟨S8192x11008, .bf16⟩
  | .hbm, ⟨22, _⟩ => ⟨S1x11008x4096, .f32⟩
  | .hbm, ⟨23, _⟩ => ⟨S11008x4096, .f32⟩
  | .hbm, ⟨24, _⟩ => ⟨S11008x4096, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Kernel5.lean ====
abbrev S8192x11008 : Shape := ⟨2, ![8192, 11008]⟩
abbrev S11008x4096 : Shape := ⟨2, ![11008, 4096]⟩
abbrev S8192x4096 : Shape := ⟨2, ![8192, 4096]⟩
abbrev S1024x11008 : Shape := ⟨2, ![1024, 11008]⟩
abbrev S11008x256 : Shape := ⟨2, ![11008, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x4096, .f32⟩
  | .local _ .vmem, ⟨0, _⟩ => ⟨S1024x11008, .bf16⟩
  | .local _ .vmem, ⟨1, _⟩ => ⟨S11008x256, .bf16⟩
  | .local _ .vmem, ⟨2, _⟩ => ⟨S11008x256, .bf16⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S11008x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S8192x11008 : Shape := ⟨2, ![8192, 11008]⟩
abbrev S11008x4096 : Shape := ⟨2, ![11008, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S11008x4096, .bf16⟩
  | .hbm, ⟨2, _⟩ => ⟨S8192x4096, .f32⟩
  | .hbm, ⟨3, _⟩ => ⟨S8192x11008, .f32⟩
  | .hbm, ⟨4, _⟩ => ⟨S11008x4096, .f32⟩
  | .hbm, ⟨5, _⟩ => ⟨S8192x4096, .f32⟩
  | .hbm, ⟨6, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference6Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel7.lean ====
abbrev S8192x4096 : Shape := ⟨2, ![8192, 4096]⟩
abbrev S2x4096 : Shape := ⟨2, ![2, 4096]⟩
abbrev S2x4096x13376 : Shape := ⟨3, ![2, 4096, 13376]⟩
abbrev S2x13376x4096 : Shape := ⟨3, ![2, 13376, 4096]⟩
abbrev S2x16x4096 : Shape := ⟨3, ![2, 16, 4096]⟩
abbrev S2x48x4096 : Shape := ⟨3, ![2, 48, 4096]⟩
abbrev S2x64x4096 : Shape := ⟨3, ![2, 64, 4096]⟩
abbrev S_ : Shape := ⟨0, ![]⟩
abbrev S2x128x4096 : Shape := ⟨3, ![2, 128, 4096]⟩
abbrev S1x4096 : Shape := ⟨2, ![1, 4096]⟩
abbrev S4096 : Shape := ⟨1, ![4096]⟩
abbrev S8192x128 : Shape := ⟨2, ![8192, 128]⟩
abbrev S256x4096 : Shape := ⟨2, ![256, 4096]⟩
abbrev S1x128x4096 : Shape := ⟨3, ![1, 128, 4096]⟩
abbrev S256x128 : Shape := ⟨2, ![256, 128]⟩
abbrev S256 : Shape := ⟨1, ![256]⟩
abbrev S256x1 : Shape := ⟨2, ![256, 1]⟩
abbrev S128x4096 : Shape := ⟨2, ![128, 4096]⟩

abbrev nBuf : Space → Nat
  | .hbm => 15
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x13376, .f32⟩
  | .hbm, ⟨3, _⟩ => ⟨S2x13376x4096, .f32⟩
  | .hbm, ⟨4, _⟩ => ⟨S2x16x4096, .f32⟩
  | .hbm, ⟨5, _⟩ => ⟨S2x48x4096, .f32⟩
  | .hbm, ⟨6, _⟩ => ⟨S2x64x4096, .f32⟩
  | .hbm, ⟨7, _⟩ => ⟨S_, .i32⟩
  | .hbm, ⟨8, _⟩ => ⟨S_, .f32⟩
  | .hbm, ⟨9, _⟩ => ⟨S2x128x4096, .f32⟩
  | .hbm, ⟨10, _⟩ => ⟨S1x4096, .f32⟩
  | .hbm, ⟨11, _⟩ => ⟨S4096, .f32⟩
  | .hbm, ⟨12, _⟩ => ⟨S1x4096, .f32⟩
  | .hbm, ⟨13, _⟩ => ⟨S8192x4096, .bf16⟩
  | .hbm, ⟨14, _⟩ => ⟨S8192x128, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x128x4096, .f32⟩
  | .local _ .vmem, ⟨4, _⟩ => ⟨S256x4096, .bf16⟩
  | .local _ .vmem, ⟨5, _⟩ => ⟨S256x4096, .bf16⟩
  | .local _ .vmem, ⟨6, _⟩ => ⟨S256x128, .f32⟩
  | .local _ .vmem, ⟨7, _⟩ => ⟨S256x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8192x4096 : Shape := ⟨2, ![8192, 4096]⟩
abbrev S2x4096 : Shape := ⟨2, ![2, 4096]⟩
abbrev S2x4096x13376 : Shape := ⟨3, ![2, 4096, 13376]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096x13376 : Shape := ⟨3, ![1, 4096, 13376]⟩
abbrev S4096x13376 : Shape := ⟨2, ![4096, 13376]⟩
abbrev S8192x13376 : Shape := ⟨2, ![8192, 13376]⟩
abbrev S8192x16 : Shape := ⟨2, ![8192, 16]⟩
abbrev S8192x48 : Shape := ⟨2, ![8192, 48]⟩
abbrev S8192x64 : Shape := ⟨2, ![8192, 64]⟩
abbrev S8192x128 : Shape := ⟨2, ![8192, 128]⟩

abbrev nBuf : Space → Nat
  | .hbm => 31
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S2x4096x13376, .f32⟩
  | .hbm, ⟨3, _⟩ => ⟨S1x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S1x4096x13376, .f32⟩
  | .hbm, ⟨22, _⟩ => ⟨S4096x13376, .f32⟩
  | .hbm, ⟨23, _⟩ => ⟨S8192x13376, .f32⟩
  | .hbm, ⟨24, _⟩ => ⟨S8192x16, .f32⟩
  | .hbm, ⟨25, _⟩ => ⟨S8192x48, .f32⟩
  | .hbm, ⟨26, _⟩ => ⟨S8192x64, .f32⟩
  | .hbm, ⟨27, _⟩ => ⟨S8192x4096, .bf16⟩
  | .hbm, ⟨28, _⟩ => ⟨S_, .i32⟩
  | .hbm, ⟨29, _⟩ => ⟨S_, .f32⟩
  | .hbm, ⟨30, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel8.lean ====
abbrev S4x4x128x2048 : Shape := ⟨4, ![4, 4, 128, 2048]⟩
abbrev S2x32x128 : Shape := ⟨3, ![2, 32, 128]⟩
abbrev S2x4096x256 : Shape := ⟨3, ![2, 4096, 256]⟩
abbrev S2x256x128 : Shape := ⟨3, ![2, 256, 128]⟩
abbrev S1x32x128 : Shape := ⟨3, ![1, 32, 128]⟩
abbrev S32x128 : Shape := ⟨2, ![32, 128]⟩
abbrev S1x4096x256 : Shape := ⟨3, ![1, 4096, 256]⟩
abbrev S4096x256 : Shape := ⟨2, ![4096, 256]⟩
abbrev S1x256x128 : Shape := ⟨3, ![1, 256, 128]⟩
abbrev S256x128 : Shape := ⟨2, ![256, 128]⟩
abbrev S16x128x2048 : Shape := ⟨3, ![16, 128, 2048]⟩
abbrev S2x2048 : Shape := ⟨2, ![2, 2048]⟩
abbrev S16x128x128 : Shape := ⟨3, ![16, 128, 128]⟩
abbrev S1x128x2048 : Shape := ⟨3, ![1, 128, 2048]⟩
abbrev S1x128x128 : Shape := ⟨3, ![1, 128, 128]⟩
abbrev S128x2048 : Shape := ⟨2, ![128, 2048]⟩
abbrev S1x2048 : Shape := ⟨2, ![1, 2048]⟩
abbrev S2048x256 : Shape := ⟨2, ![2048, 256]⟩
abbrev S128x256 : Shape := ⟨2, ![128, 256]⟩
abbrev S128x128 : Shape := ⟨2, ![128, 128]⟩

abbrev nBuf : Space → Nat
  | .hbm => 26
  | .vmem => 14
  | .smem => 0
  | _ => 0

abbrev bufTy : (tb : Table) → Fin (tcTables nBuf tb) → BufTy
  | .hbm, ⟨0, _⟩ => ⟨S4x4x128x2048, .f32⟩
  | .hbm, ⟨1, _⟩ => ⟨S4x4x128x2048, .f32⟩
  | .hbm, ⟨2, _⟩ => ⟨S2x32x128, .f32⟩
  | .hbm, ⟨3, _⟩ => ⟨S2x4096x256, .f32⟩
  | .hbm, ⟨4, _⟩ => ⟨S2x256x128, .f32⟩
  | .hbm, ⟨5, _⟩ => ⟨S2x32x128, .f32⟩
  | .hbm, ⟨6, _⟩ => ⟨S2x4096x256, .f32⟩
  | .hbm, ⟨7, _⟩ => ⟨S2x256x128, .f32⟩
  | .hbm, ⟨8, _⟩ => ⟨S1x32x128, .f32⟩
  | .hbm, ⟨9, _⟩ => ⟨S32x128, .f32⟩
  | .hbm, ⟨10, _⟩ => ⟨S1x4096x256, .f32⟩
  | .hbm, ⟨11, _⟩ => ⟨S4096x256, .f32⟩
  | .hbm, ⟨12, _⟩ => ⟨S1x256x128, .f32⟩
  | .hbm, ⟨13, _⟩ => ⟨S256x128, .f32⟩
  | .hbm, ⟨14, _⟩ => ⟨S1x32x128, .f32⟩
  | .hbm, ⟨15, _⟩ => ⟨S32x128, .f32⟩
  | .hbm, ⟨16, _⟩ => ⟨S1x4096x256, .f32⟩
  | .hbm, ⟨17, _⟩ => ⟨S4096x256, .f32⟩
  | .hbm, ⟨18, _⟩ => ⟨S1x256x128, .f32⟩
  | .hbm, ⟨19, _⟩ => ⟨S256x128, .f32⟩
  | .hbm, ⟨20, _⟩ => ⟨S16x128x2048, .f32⟩
  | .hbm, ⟨21, _⟩ => ⟨S16x128x2048, .f32⟩
  | .hbm, ⟨22, _⟩ => ⟨S2x2048, .f32⟩
  | .hbm, ⟨23, _⟩ => ⟨S2x2048, .f32⟩
  | .hbm, ⟨24, _⟩ => ⟨S16x128x128, .f32⟩
  | .hbm, ⟨25, _⟩ => ⟨S16x128x128, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S2x2048, .f32⟩
  | .local _ .vmem, ⟨5, _⟩ => ⟨S4096x256, .f32⟩
  | .local _ .vmem, ⟨6, _⟩ => ⟨S256x128, .f32⟩
  | .local _ .vmem, ⟨7, _⟩ => ⟨S2x2048, .f32⟩
  | .local _ .vmem, ⟨8, _⟩ => ⟨S4096x256, .f32⟩
  | .local _ .vmem, ⟨9, _⟩ => ⟨S256x128, .f32⟩
  | .local _ .vmem, ⟨10, _⟩ => ⟨S1x128x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | _, _ => ⟨S4x4x128x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference8Ideal.lean ====
abbrev S4x4x128x2048 : Shape := ⟨4, ![4, 4, 128, 2048]⟩
abbrev S2x32x128 : Shape := ⟨3, ![2, 32, 128]⟩
abbrev S2x4096x256 : Shape := ⟨3, ![2, 4096, 256]⟩
abbrev S2x256x128 : Shape := ⟨3, ![2, 256, 128]⟩
abbrev S127 : Shape := ⟨1, ![127]⟩
abbrev S_ : Shape := ⟨0, ![]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S1x32x128 : Shape := ⟨3, ![1, 32, 128]⟩
abbrev S32x128 : Shape := ⟨2, ![32, 128]⟩
abbrev S1x4096x256 : Shape := ⟨3, ![1, 4096, 256]⟩
abbrev S4096x256 : Shape := ⟨2, ![4096, 256]⟩
abbrev S1x256x128 : Shape := ⟨3, ![1, 256, 128]⟩
abbrev S256x128 : Shape := ⟨2, ![256, 128]⟩
abbrev S4x4x2048x128 : Shape := ⟨4, ![4, 4, 2048, 128]⟩
abbrev S127x32x1 : Shape := ⟨3, ![127, 32, 1]⟩
abbrev S4x4x127x32x128 : Shape := ⟨5, ![4, 4, 127, 32, 128]⟩
abbrev S1x1x1x32x128 : Shape := ⟨5, ![1, 1, 1, 32, 128]⟩
abbrev S4x4x127x4096 : Shape := ⟨4, ![4, 4, 127, 4096]⟩
abbrev S4x4x127x256 : Shape := ⟨4, ![4, 4, 127, 256]⟩
abbrev S4x4x127x128 : Shape := ⟨4, ![4, 4, 127, 128]⟩
abbrev S16x127x128 : Shape := ⟨3, ![16, 127, 128]⟩
abbrev S16x128x128 : Shape := ⟨3, ![16, 128, 128]⟩

abbrev nBuf : Space → Nat
  | .hbm => 104
  | .vmem => 0
  | .smem => 0
  | _ => 0

abbrev bufTy : (tb : Table) → Fin (tcTables nBuf tb) → BufTy
  | .hbm, ⟨0, _⟩ => ⟨S4x4x128x2048, .f32⟩
  | .hbm, ⟨1, _⟩ => ⟨S4x4x128x2048, .f32⟩
  | .hbm, ⟨2, _⟩ => ⟨S2x32x128, .f32⟩
  | .hbm, ⟨3, _⟩ => ⟨S2x4096x256, .f32⟩
  | .hbm, ⟨4, _⟩ => ⟨S2x256x128, .f32⟩
  | .hbm, ⟨5, _⟩ => ⟨S2x32x128, .f32⟩
  | .hbm, ⟨6, _⟩ => ⟨S2x4096x256, .f32⟩
  | .hbm, ⟨7, _⟩ => ⟨S2x256x128, .f32⟩
  | .hbm, ⟨8, _⟩ => ⟨S127, .i32⟩
  | .hbm, ⟨9, _⟩ => ⟨S_, .i32⟩
  | .hbm, ⟨10, _⟩ => ⟨S127, .i32⟩
  | .hbm, ⟨11, _⟩ => ⟨S127, .i32⟩
  | .hbm, ⟨12, _⟩ => ⟨S127x1, .i32⟩
  | .hbm, ⟨13, _⟩ => ⟨S32, .i32⟩
  | .hbm, ⟨14, _⟩ => ⟨S1x32, .i32⟩
  | .hbm, ⟨15, _⟩ => ⟨S127x32, .i32⟩
  | .hbm, ⟨16, _⟩ => ⟨S127x32, .i32⟩
  | .hbm, ⟨17, _⟩ => ⟨S127x32, .i32⟩
  | .hbm, ⟨18, _⟩ => ⟨S1x32x128, .f32⟩
  | .hbm, ⟨19, _⟩ => ⟨S32x128, .f32⟩
  | .hbm, ⟨20, _⟩ => ⟨S1x4096x256, .f32⟩
  | .hbm, ⟨21, _⟩ => ⟨S4096x256, .f32⟩
  | .hbm, ⟨22, _⟩ => ⟨S1x256x128, .f32⟩
  | .hbm, ⟨23, _⟩ => ⟨S256x128, .f32⟩
  | .hbm, ⟨24, _⟩ => ⟨S4x4x2048x128, .f32⟩
  | .hbm, ⟨25, _⟩ => ⟨S_, .i32⟩
  | .hbm, ⟨26, _⟩ => ⟨S127x32, .i32⟩
  | .hbm, ⟨27, _⟩ => ⟨S127x32, .i1⟩
  | .hbm, ⟨28, _⟩ => ⟨S_, .i32⟩
  | .hbm, ⟨29, _⟩ => ⟨S127x32, .i32⟩
  | .hbm, ⟨30, _⟩ => ⟨S127x32, .i32⟩
  | .hbm, ⟨31, _⟩ => ⟨S127x32, .i32⟩
  | .hbm, ⟨32, _⟩ => ⟨S127x32x1, .i32⟩
  | .hbm, ⟨33, _⟩ => ⟨S4x4x127x32x128, .f32⟩
  | .hbm, ⟨34, _⟩ => ⟨S1x1x1x32x128, .f32⟩
  | .hbm, ⟨35, _⟩ => ⟨S4x4x127x32x128, .f32⟩
  | .hbm, ⟨36, _⟩ => ⟨S4x4x127x32x128, .f32⟩
  | .hbm, ⟨37, _⟩ => ⟨S4x4x127x4096, .f32⟩
  | .hbm, ⟨38, _⟩ => ⟨S4x4x127x256, .f32⟩
  | .hbm, ⟨39, _⟩ => ⟨S4x4x127x256, .f32⟩
  | .hbm, ⟨40, _⟩ => ⟨S4x4x127x256, .f32⟩
  | .hbm, ⟨41, _⟩ => ⟨S_, .f32⟩
  | .hbm, ⟨42, _⟩ => ⟨S4x4x127x256, .f32⟩
  | .hbm, ⟨43, _⟩ => ⟨S4x4x127x256, .f32⟩
  | .hbm, ⟨44, _⟩ => ⟨S4x4x127x256, .f32⟩
  | .hbm, ⟨45, _⟩ => ⟨S_, .f32⟩
  | .hbm, ⟨46, _⟩ => ⟨S4x4x127x256, .f32⟩
  | .hbm, ⟨47, _⟩ => ⟨S4x4x127x256, .f32⟩
  | .hbm, ⟨48, _⟩ => ⟨S4x4x127x256, .f32⟩
  | .hbm, ⟨49, _⟩ => ⟨S_, .f32⟩
  | .hbm, ⟨50, _⟩ => ⟨S4x4x127x256, .f32⟩
  | .hbm, ⟨51, _⟩ => ⟨S4x4x127x256, .f32⟩
  | .hbm, ⟨52, _⟩ => ⟨S_, .f32⟩
  | .hbm, ⟨53, _⟩ => ⟨S4x4x127x256, .f32⟩
  | .hbm, ⟨54, _⟩ => ⟨S4x4x127x256, .f32⟩
  | .hbm, ⟨55, _⟩ => ⟨S4x4x127x256, .f32⟩
  | .hbm, ⟨56, _⟩ => ⟨S4x4x127x128, .f32⟩
  | .hbm, ⟨57, _⟩ => ⟨S16x127x128, .f32⟩
  | .hbm, ⟨58, _⟩ => ⟨S_, .i32⟩
  | .hbm, ⟨59, _⟩ => ⟨S_, .f32⟩
  | .hbm, ⟨60, _⟩ => ⟨S16x128x128, .f32⟩
  | .hbm, ⟨61, _⟩ => ⟨S1x32x128, .f32⟩
  | .hbm, ⟨62, _⟩ => ⟨S32x128, .f32⟩
  | .hbm, ⟨63, _⟩ => ⟨S1x4096x256, .f32⟩
  | .hbm, ⟨64, _⟩ => ⟨S4096x256, .f32⟩
  | .hbm, ⟨65, _⟩ => ⟨S1x256x128, .f32⟩
  | .hbm, ⟨66, _⟩ => ⟨S256x128, .f32⟩
  | .hbm, ⟨67, _⟩ => ⟨S4x4x2048x128, .f32⟩
  | .hbm, ⟨68, _⟩ => ⟨S_, .i32⟩
  | .hbm, ⟨69, _⟩ => ⟨S127x32, .i32⟩
  | .hbm, ⟨70, _⟩ => ⟨S127x32, .i1⟩
  | .hbm, ⟨71, _⟩ => ⟨S_, .i32⟩
  | .hbm, ⟨72, _⟩ => ⟨S127x32, .i32⟩
  | .hbm, ⟨73, _⟩ => ⟨S127x32, .i32⟩
  | .hbm, ⟨74, _⟩ => ⟨S127x32, .i32⟩
  | .hbm, ⟨75, _⟩ => ⟨S127x32x1, .i32⟩
  | .hbm, ⟨76, _⟩ => ⟨S4x4x127x32x128, .f32⟩
  | .hbm, ⟨77, _⟩ => ⟨S1x1x1x32x128, .f32⟩
  | .hbm, ⟨78, _⟩ => ⟨S4x4x127x32x128, .f32⟩
  | .hbm, ⟨79, _⟩ => ⟨S4x4x127x32x128, .f32⟩
  | .hbm, ⟨80, _⟩ => ⟨S4x4x127x4096, .f32⟩
  | .hbm, ⟨81, _⟩ => ⟨S4x4x127x256, .f32⟩
  | .hbm, ⟨82, _⟩ => ⟨S4x4x127x256, .f32⟩
  | .hbm, ⟨83, _⟩ => ⟨S4x4x127x256, .f32⟩
  | .hbm, ⟨84, _⟩ => ⟨S_, .f32⟩
  | .hbm, ⟨85, _⟩ => ⟨S4x4x127x256, .f32⟩
  | .hbm, ⟨86, _⟩ => ⟨S4x4x127x256, .f32⟩
  | .hbm, ⟨87, _⟩ => ⟨S4x4x127x256, .f32⟩
  | .hbm, ⟨88, _⟩ => ⟨S_, .f32⟩
  | .hbm, ⟨89, _⟩ => ⟨S4x4x127x256, .f32⟩
  | .hbm, ⟨90, _⟩ => ⟨S4x4x127x256, .f32⟩
  | .hbm, ⟨91, _⟩ => ⟨S4x4x127x256, .f32⟩
  | .hbm, ⟨92, _⟩ => ⟨S_, .f32⟩
  | .hbm, ⟨93, _⟩ => ⟨S4x4x127x256, .f32⟩
  | .hbm, ⟨94, _⟩ => ⟨S4x4x127x256, .f32⟩
  | .hbm, ⟨95, _⟩ => ⟨S_, .f32⟩
  | .hbm, ⟨96, _⟩ => ⟨S4x4x127x256, .f32⟩
  | .hbm, ⟨97, _⟩ => ⟨S4x4x127x256, .f32⟩
  | .hbm, ⟨98, _⟩ => ⟨S4x4x127x256, .f32⟩
  | .hbm, ⟨99, _⟩ => ⟨S4x4x127x128, .f32⟩
  | .hbm, ⟨100, _⟩ => ⟨S16x127x128, .f32⟩
  | .hbm, ⟨101, _⟩ => ⟨S_, .i32⟩
  | .hbm, ⟨102, _⟩ => ⟨S_, .f32⟩
  | .hbm, ⟨103, _⟩ => ⟨S16x128x128, .f32⟩
  | _, _ => ⟨S4x4x128x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_0 : Ref sig .tc := ⟨.hbm, 25, rfl⟩
abbrev main_v16 : Ref sig .tc := ⟨.hbm, 26, rfl⟩
abbrev main_v17 : Ref sig .tc := ⟨.hbm, 27, rfl⟩
abbrev main_c_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_cst_4 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c_5 : Ref sig .tc := ⟨.hbm, 58, rfl⟩
abbrev main_call0_v0 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_6 : Ref sig .tc := ⟨.hbm, 68, rfl⟩
abbrev main_v51 : Ref sig .tc := ⟨.hbm, 69, rfl⟩
abbrev main_v52 : Ref sig .tc := ⟨.hbm, 70, rfl⟩
abbrev main_c_7 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_9 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_10 : Ref sig .tc := ⟨.hbm, 92, rfl⟩
abbrev main_v71 : Ref sig .tc := ⟨.hbm, 93, rfl⟩
abbrev main_v72 : Ref sig .tc := ⟨.hbm, 94, rfl⟩
abbrev main_cst_11 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_c_12 : Ref sig .tc := ⟨.hbm, 101, rfl⟩
abbrev main_call1_v0 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Kernel9.lean ====
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Proof.RecBlock.lean ====
/-
  WHAT ONE POINT OF THE RECURRENT PROJECTION CALL COMPUTES (`KernelIdeal`): its payloads at an index, and each store it makes as a
  tile of one function of the block's index. A head is turned through its angles as `x·cos + roll(x, 64)·sin`, over tables whose
  second half repeats the first and whose sine carries the sign.
-/
module

public import proofs.«01_k».proof.Defs
public import proofs.«01_k».proof.Proof.Gen.KernelIdeal.Value
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

theorem hz : (![0, 0] : Fin 2 → Nat) = fun _ => 0 := funext fun a => by fin_cases a <;> rfl
theorem hz4 : (![0, 0, 0, 0] : Fin 4 → Nat) = fun _ => 0 := funext fun a => by fin_cases a <;> rfl

/-- A lane of a head, and the lane half a head away. -/
abbrev lane (q : Nat) : Fin 128 := ⟨q % 128, Nat.mod_lt _ (by decide)⟩
abbrev half (q : Nat) : Nat := q / 128 * 128 + (q % 128 + 64) % 128

/-- The body's product at an index, over the weights as the element window lays them out. -/
theorem rec_apply (x : Vec Ideal S2048x4096 .bf16) (w : Vec Ideal S1x32x16x4096 .f32) (j : S2048x512.Idx) :
    k0_pay2 x (k0_pay1 (k0_pay181 w)) j = ∑ k : Fin 4096, x (ix2 (j 0) k)
      * w (ix4 0 ⟨(j 1).val / 16, by have : (j 1).val < 512 := (j 1).isLt; omega⟩ ⟨(j 1).val % 16, by omega⟩ k) := by
  pointwise [k0_pay2, k0_pay1, k0_pay181]

/-- A head turned through its angles, at an index. -/
theorem turn_apply (c s v : Vec Ideal S128x128 .f32) (p : S128x128.Idx) :
    k0_pay26 (k0_pay3 c) (k0_pay4 s) v p = v p * c p + v (ix2 (p 0) (lane ((p 1).val + 64))) * s p := by
  pointwise [k0_pay26, k0_pay3, k0_pay4]
  simp only [show (p 1).val + 128 - 64 = (p 1).val + 64 from by omega]

/-- The same scaled, at an index. -/
theorem query_apply (c s v : Vec Ideal S128x128 .f32) (p : S128x128.Idx) :
    k0_pay5 c s v p = (v p * c p + v (ix2 (p 0) (lane ((p 1).val + 64))) * s p) * Ideal.ofBits .f32 0x3E0293EE#32 := by
  pointwise [k0_pay5, k0_pay3, k0_pay4]
  simp only [show (p 1).val + 128 - 64 = (p 1).val + 64 from by omega]

/-- The column of ones, at an index. -/
theorem ones_apply (p : S128x128.Idx) : (k0_pay25 : FVec Ideal S128x128 .bf16) p = if (p 1).val = 0 then 1 else 0 := by
  have e : ∀ q : Fin 128, BitVec.setWidth 32 (IntOp.cmpi .eq (BitVec.ofNat 32 q.val) 0#32) = if q.val = 0 then 1#32 else 0#32 := by decide
  pointwise [k0_pay25]
  rw [e (p 1)]
  split
  · show (((1#32 : BitVec 32).toInt : ℝ) : EReal) = 1
    simp
  · show (((0#32 : BitVec 32).toInt : ℝ) : EReal) = 0
    simp

/-! ## The blocks a point leaves, as functions of its input blocks -/

/-- The rotary turn of a block of heads side by side. -/
def turn {W : Nat} (x : (⟨2, ![128, W]⟩ : Shape).Idx → EReal) (c s : Vec Ideal S128x128 .f32) (r : Fin 128) (q : Nat) (hq : q < W) (hw : 128 ∣ W) : EReal :=
  x (ix2 r ⟨q, hq⟩) * c (ix2 r (lane q))
    + x (ix2 r ⟨half q, by unfold half; obtain ⟨n, rfl⟩ := hw; omega⟩) * s (ix2 r (lane q))

/-- The queries' block. -/
def E12 (x2 : Vec Ideal S128x2048 .f32) (x9 x10 : Vec Ideal S128x128 .f32) : Vec Ideal S128x2048 .bf16 := fun y =>
  turn (W := 2048) x2 x9 x10 (y 0) (y 1).val (y 1).isLt (by decide) * Ideal.ofBits .f32 0x3E0293EE#32

/-- A turned block of four heads. -/
def E15 (x : Vec Ideal S128x512 .f32) (x9 x10 : Vec Ideal S128x128 .f32) : Vec Ideal S128x512 .bf16 := fun y =>
  turn (W := 512) x x9 x10 (y 0) (y 1).val (y 1).isLt (by decide)

/-- A block of values, each head followed by its column of ones. -/
def E16 (x : Vec Ideal S128x512 .f32) : Vec Ideal S128x1024 .bf16 := fun y =>
  if (y 1).val % 256 < 128 then x (ix2 (y 0) ⟨(y 1).val / 256 * 128 + (y 1).val % 128, by
    have : (y 1).val < 1024 := (y 1).isLt; omega⟩) else if (y 1).val % 128 = 0 then 1 else 0

/-- A block of groups: each row holds 16 consecutive positions side by side, and a group is read off `X` (row, column). -/
def groups (X : Fin 128 → Fin 512 → EReal) : Vec Ideal S1x4x8x2048 .f32 := fun y =>
  X ⟨(y 2).val * 16 + (y 3).val / 128, by have : (y 2).val < 8 := (y 2).isLt; have : (y 3).val < 2048 := (y 3).isLt; omega⟩
    ⟨(y 1).val * 128 + (y 3).val % 128, by have : (y 1).val < 4 := (y 1).isLt; omega⟩

/-! ## The stores, each a tile of the block's function -/

variable {W : Nat} {a b : Memref sig .tc .vmem S128x128 .f32} (ha : a.IsWhole) (hb : b.IsWhole)

/-- The load of the head at columns `128·h` on. -/
theorem head_ld {X : Memref sig .tc .vmem (⟨2, ![128, W]⟩ : Shape) .f32} (hX : X.IsWhole) (x : Vec Ideal (⟨2, ![128, W]⟩ : Shape) .f32) (h : Nat) inb
    (p : S128x128.Idx) (hp : 128 * h + (p 1).val < W) :
    View.readAt (Elt Ideal) X.view (Rect.unit (s := (⟨2, ![128, W]⟩ : Shape)) ![0, 128 * h] S128x128.size inb).toLoadRect (hX.unread x) p
      = x (ix2 (p 0) ⟨128 * h + (p 1).val, hp⟩) := by
  rw [View.readAt_eq_ld, hX.read_unread]
  refine congrArg x (funext fun d => Fin.ext ?_)
  match d with
  | ⟨0, _⟩ => show 0 + 1 * (p 0).val = (p 0).val; omega
  | ⟨1, _⟩ => show 128 * h + 1 * (p 1).val = 128 * h + (p 1).val; omega

/-- The load of a table. -/
theorem table_ld (x : Vec Ideal S128x128 .f32) (inb) :
    View.readAt (Elt Ideal) a.view (Rect.unit ![0, 0] S128x128.size inb).toLoadRect (ha.unread x) = x := by
  rw [View.readAt_eq_ld, ha.read_unread, View.ld_unit_zero (S := S128x128) hz]

/-- A turned head is its columns of the turned block. -/
theorem turn_head {X : Memref sig .tc .vmem (⟨2, ![128, W]⟩ : Shape) .f32} (hX : X.IsWhole) (x : Vec Ideal (⟨2, ![128, W]⟩ : Shape) .f32)
    (x9 x10 : Vec Ideal S128x128 .f32) (h : Nat) (i1 i2 inb) (hw : 128 ∣ W) (p : S128x128.Idx) (hp : 128 * h + (p 1).val < W) :
    k0_pay26 (k0_pay3 (View.readAt (Elt Ideal) a.view (Rect.unit ![0, 0] S128x128.size i1).toLoadRect (ha.unread x9)))
      (k0_pay4 (View.readAt (Elt Ideal) b.view (Rect.unit ![0, 0] S128x128.size i2).toLoadRect (hb.unread x10)))
      (View.readAt (Elt Ideal) X.view (Rect.unit (s := (⟨2, ![128, W]⟩ : Shape)) ![0, 128 * h] S128x128.size inb).toLoadRect (hX.unread x)) p
      = turn x x9 x10 (p 0) (128 * h + (p 1).val) hp hw := by
  have h1 : (p 1).val < 128 := (p 1).isLt
  have hh : 128 * h + 128 ≤ W := inb 1
  rw [table_ld ha, table_ld hb]
  refine (turn_apply _ _ _ p).trans ?_
  rw [head_ld hX x h inb p hp, head_ld hX x h inb (ix2 (p 0) (lane ((p 1).val + 64))) (by
    show 128 * h + ((p 1).val + 64) % 128 < W
    omega)]
  unfold turn
  have e : ix2 (p 0) (lane (128 * h + (p 1).val)) = p := funext fun d => Fin.ext (by
    match d with
    | ⟨0, _⟩ => rfl
    | ⟨1, _⟩ => show (128 * h + (p 1).val) % 128 = (p 1).val; omega)
  refine congrArg₂ (· + ·) (congrArg₂ (· * ·) rfl (congrArg x9 e.symm))
    (congrArg₂ (· * ·) (congrArg x (funext fun d => Fin.ext ?_)) (congrArg x10 e.symm))
  match d with
  | ⟨0, _⟩ => rfl
  | ⟨1, _⟩ => show 128 * h + ((p 1).val + 64) % 128 = half (128 * h + (p 1).val); unfold half; omega

/-- A head of the queries. -/
theorem q_piece {X : Memref sig .tc .vmem S128x2048 .f32} (hX : X.IsWhole) (x : Vec Ideal S128x2048 .f32)
    (x9 x10 : Vec Ideal S128x128 .f32) (h : Nat) (i1 i2 inb inb') (p : S128x128.Idx) :
    k0_pay5 (View.readAt (Elt Ideal) a.view (Rect.unit ![0, 0] S128x128.size i1).toLoadRect (ha.unread x9))
      (View.readAt (Elt Ideal) b.view (Rect.unit ![0, 0] S128x128.size i2).toLoadRect (hb.unread x10))
      (View.readAt (Elt Ideal) X.view (Rect.unit (s := S128x2048) ![0, 128 * h] S128x128.size inb).toLoadRect (hX.unread x)) p
      = E12 x x9 x10 ((Rect.unit (s := S128x2048) ![0, 128 * h] ![128, 128] inb').emb p) := by
  have h1 : (p 1).val < 128 := (p 1).isLt
  have hh : 128 * h + 128 ≤ 2048 := inb 1
  refine (query_apply _ _ _ p).trans ?_
  refine congrArg (· * Ideal.ofBits .f32 0x3E0293EE#32) ?_
  refine ((turn_apply _ _ _ p).symm.trans (turn_head (W := 2048) ha hb hX x x9 x10 h i1 i2 inb (by decide) p (by omega))).trans ?_
  have e0 : ((Rect.unit (s := S128x2048) ![0, 128 * h] ![128, 128] inb').emb p 0) = p 0 := Fin.ext (by
    show 0 + 1 * (p 0).val = (p 0).val; omega)
  have e1 : ((Rect.unit (s := S128x2048) ![0, 128 * h] ![128, 128] inb').emb p 1).val = 128 * h + (p 1).val := by
    show 128 * h + 1 * (p 1).val = _; omega
  simp only [e0, e1]

/-- A head of a turned block. -/
theorem k_piece {X : Memref sig .tc .vmem S128x512 .f32} (hX : X.IsWhole) (x : Vec Ideal S128x512 .f32)
    (x9 x10 : Vec Ideal S128x128 .f32) (h : Nat) (i1 i2 inb inb') (p : S128x128.Idx) :
    k0_pay60 (k0_pay3 (View.readAt (Elt Ideal) a.view (Rect.unit ![0, 0] S128x128.size i1).toLoadRect (ha.unread x9)))
      (k0_pay4 (View.readAt (Elt Ideal) b.view (Rect.unit ![0, 0] S128x128.size i2).toLoadRect (hb.unread x10)))
      (View.readAt (Elt Ideal) X.view (Rect.unit (s := S128x512) ![0, 128 * h] S128x128.size inb).toLoadRect (hX.unread x)) p
      = E15 x x9 x10 ((Rect.unit (s := S128x512) ![0, 128 * h] ![128, 128] inb').emb p) := by
  have h1 : (p 1).val < 128 := (p 1).isLt
  have hh : 128 * h + 128 ≤ 512 := inb 1
  refine ((fun c s v => by pointwise [k0_pay60, k0_pay26] : ∀ c s v : FVec Ideal S128x128 .f32, k0_pay60 c s v p = k0_pay26 c s v p) _ _ _).trans ?_
  refine (turn_head (W := 512) ha hb hX x x9 x10 h i1 i2 inb (by decide) p (by omega)).trans ?_
  have e0 : ((Rect.unit (s := S128x512) ![0, 128 * h] ![128, 128] inb').emb p 0) = p 0 := Fin.ext (by
    show 0 + 1 * (p 0).val = (p 0).val; omega)
  have e1 : ((Rect.unit (s := S128x512) ![0, 128 * h] ![128, 128] inb').emb p 1).val = 128 * h + (p 1).val := by
    show 128 * h + 1 * (p 1).val = _; omega
  unfold E15
  simp only [e0, e1]

/-- A head of the values. -/
theorem v_piece {X : Memref sig .tc .vmem S128x512 .f32} (hX : X.IsWhole) (x : Vec Ideal S128x512 .f32) (h : Nat) (inb inb')
    (p : S128x128.Idx) :
    (k0_pay62 (View.readAt (Elt Ideal) X.view (Rect.unit (s := S128x512) ![0, 128 * h] S128x128.size inb).toLoadRect (hX.unread x)) : FVec Ideal S128x128 .bf16) p
      = E16 x ((Rect.unit (s := S128x1024) ![0, 256 * h] ![128, 128] inb').emb p) := by
  have h1 : (p 1).val < 128 := (p 1).isLt
  have hh : 128 * h + 128 ≤ 512 := inb 1
  refine (head_ld (W := 512) hX x h inb p (by omega)).trans ?_
  have e0 : ((Rect.unit (s := S128x1024) ![0, 256 * h] ![128, 128] inb').emb p 0) = p 0 := Fin.ext (by
    show 0 + 1 * (p 0).val = (p 0).val; omega)
  have e1 : ((Rect.unit (s := S128x1024) ![0, 256 * h] ![128, 128] inb').emb p 1).val = 256 * h + (p 1).val := by
    show 256 * h + 1 * (p 1).val = _; omega
  unfold E16
  simp only [e0, e1]
  rw [if_pos (by omega)]
  refine congrArg x (funext fun d => Fin.ext ?_)
  match d with
  | ⟨0, _⟩ => rfl
  | ⟨1, _⟩ => show 128 * h + (p 1).val = (256 * h + (p 1).val) / 256 * 128 + (256 * h + (p 1).val) % 128; omega

/-- The columns of ones beside a head of the values. -/
theorem one_piece (x : Vec Ideal S128x512 .f32) (h : Nat) (inb') (p : S128x128.Idx) :
    (k0_pay25 : FVec Ideal S128x128 .bf16) p = E16 x ((Rect.unit (s := S128x1024) ![0, 128 * (2 * h + 1)] ![128, 128] inb').emb p) := by
  have h1 : (p 1).val < 128 := (p 1).isLt
  refine (ones_apply p).trans ?_
  have e0 : ((Rect.unit (s := S128x1024) ![0, 128 * (2 * h + 1)] ![128, 128] inb').emb p 0) = p 0 := Fin.ext (by
    show 0 + 1 * (p 0).val = (p 0).val; omega)
  have e1 : ((Rect.unit (s := S128x1024) ![0, 128 * (2 * h + 1)] ![128, 128] inb').emb p 1).val = 128 * (2 * h + 1) + (p 1).val := by
    show 128 * (2 * h + 1) + 1 * (p 1).val = _; omega
  unfold E16
  simp only [e0, e1]
  refine ((if_neg ?_).trans (if_congr ?_ rfl rfl)).symm
  · omega
  · omega

/-- Every 16th row of what the last full store left, from row `r`. -/
theorem strided_ld (A : Memref sig .tc .vmem S128x128 .f32) (w : Vec Ideal S128x128 .f32) (i0) (L) (r : Nat) (inb) (z : S8x128.Idx)
    (hr : r < 16) :
    A.view.readCov ((⟨Rect.unit ![0, 0] S128x128.size i0, w⟩ : View.Piece (Elt Ideal) S128x128 .f32) :: L)
      { off := ![r, 0], size := S8x128.size, stride := ![16, 1], inb := inb } z
      = w (ix2 ⟨(z 0).val * 16 + r, by have : (z 0).val < 8 := (z 0).isLt; omega⟩ (z 1)) := by
  rw [View.readCov_eq_canon']
  rw [View.canon_cons_unit_zero (S := S128x128) hz]
  refine congrArg w (funext fun d => Fin.ext ?_)
  match d with
  | ⟨0, _⟩ => show r + 16 * (z 0).val = (z 0).val * 16 + r; omega
  | ⟨1, _⟩ => show 0 + 1 * (z 1).val = (z 1).val; omega

/-- A group's store: rows `16·n + r` of head `g`. -/
theorem group_piece (A : Memref sig .tc .vmem S128x128 .f32) (X : Fin 128 → Fin 512 → EReal) (w : Vec Ideal S128x128 .f32) (g r : Nat) (i0) (L) (inb inb')
    (hg : g < 4) (hr : r < 16) (hw : ∀ p : S128x128.Idx, w p = X (p 0) ⟨g * 128 + (p 1).val, by have : (p 1).val < 128 := (p 1).isLt; omega⟩)
    (x : S1x1x8x128.Idx) :
    k0_pay27 (A.view.readCov ((⟨Rect.unit ![0, 0] S128x128.size i0, w⟩ : View.Piece (Elt Ideal) S128x128 .f32) :: L)
      { off := ![r, 0], size := S8x128.size, stride := ![16, 1], inb := inb }) x
      = groups X ((Rect.unit (s := S1x4x8x2048) ![0, g, 0, 128 * r] ![1, 1, 8, 128] inb').emb x) := by
  have h2 : (x 2).val < 8 := (x 2).isLt
  have h3 : (x 3).val < 128 := (x 3).isLt
  have h1 : (x 1).val = 0 := by have : (x 1).val < 1 := (x 1).isLt; omega
  refine ((fun v => by pointwise [k0_pay27] : ∀ v : Vec Ideal S8x128 .f32, k0_pay27 v x = v (ix2 (x 2) (x 3))) _).trans ?_
  refine (strided_ld A w i0 L r inb _ hr).trans ((hw _).trans ?_)
  unfold groups
  refine congrArg₂ X (Fin.ext ?_) (Fin.ext ?_)
  · show (x 2).val * 16 + r = (0 + 1 * (x 2).val) * 16 + (128 * r + 1 * (x 3).val) / 128
    omega
  · show g * 128 + (x 3).val = (g + 1 * (x 1).val) * 128 + (128 * r + 1 * (x 3).val) % 128
    omega

/-- A turned head read by rows: head `g` of the turned block. -/
theorem turn_rows {X : Memref sig .tc .vmem S128x512 .f32} (hX : X.IsWhole) (x : Vec Ideal S128x512 .f32)
    (x9 x10 : Vec Ideal S128x128 .f32) (g : Nat) (i1 i2 inb) (hg : g < 4) (p : S128x128.Idx) :
    k0_pay26 (k0_pay3 (View.readAt (Elt Ideal) a.view (Rect.unit ![0, 0] S128x128.size i1).toLoadRect (ha.unread x9)))
      (k0_pay4 (View.readAt (Elt Ideal) b.view (Rect.unit ![0, 0] S128x128.size i2).toLoadRect (hb.unread x10)))
      (View.readAt (Elt Ideal) X.view (Rect.unit (s := S128x512) ![0, 128 * g] S128x128.size inb).toLoadRect (hX.unread x)) p
      = turn (W := 512) x x9 x10 (p 0) (g * 128 + (p 1).val) (by have : (p 1).val < 128 := (p 1).isLt; omega) (by decide) := by
  have h1 : (p 1).val < 128 := (p 1).isLt
  refine (turn_head (W := 512) ha hb hX x x9 x10 g i1 i2 inb (by decide) p (by omega)).trans ?_
  simp only [show 128 * g + (p 1).val = g * 128 + (p 1).val by omega]

/-- A head of the values read by rows. -/
theorem plain_rows {X : Memref sig .tc .vmem S128x512 .f32} (hX : X.IsWhole) (x : Vec Ideal S128x512 .f32) (g : Nat) (inb)
    (hg : g < 4) (p : S128x128.Idx) :
    (k0_pay43 (View.readAt (Elt Ideal) X.view (Rect.unit (s := S128x512) ![0, 128 * g] S128x128.size inb).toLoadRect (hX.unread x)) : FVec Ideal S128x128 .f32) p
      = x (ix2 (p 0) ⟨g * 128 + (p 1).val, by have : (p 1).val < 128 := (p 1).isLt; omega⟩) := by
  have h1 : (p 1).val < 128 := (p 1).isLt
  refine ((fun v => by pointwise [k0_pay43] : ∀ v : FVec Ideal S128x128 .f32, k0_pay43 v p = v p) _).trans ?_
  refine (head_ld (W := 512) hX x g inb p (by omega)).trans ?_
  simp only [show 128 * g + (p 1).val = g * 128 + (p 1).val by omega]

end Cert.KernelIdeal.InprojRec
end
-- ==== Proof.RecOuts.lean ====
/-
  WHAT ONE POINT LEAVES IN EACH RESULT'S BUFFER (`KernelIdeal`): the stores of the body, each a tile of one function of the block's
  index, put together.
-/
module

public import proofs.«01_k».proof.Defs
public import proofs.«01_k».proof.Proof.RecBlock
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

variable (c : Dev nD) (i : grid0.Coords) (a2 : Memref sig .tc .vmem S2048x4096 .bf16) (h2 : a2.IsWhole) (a3 : Memref sig .tc .vmem S1x32x16x4096 .f32) (h3 : a3.IsWhole) (a4 : Memref sig .tc .vmem S128x2048 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x128 .f32) (h11 : a11.IsWhole) (a12 : Memref sig .tc .vmem S128x128 .f32) (h12 : a12.IsWhole) (a13 : Memref sig .tc .vmem S2048x512 .f32) (h13 : a13.IsWhole) (a14 : Memref sig .tc .vmem S128x2048 .bf16) (h14 : a14.IsWhole) (a15 : Memref sig .tc .vmem S1x4x8x2048 .f32) (h15 : a15.IsWhole) (a16 : Memref sig .tc .vmem S1x4x8x2048 .f32) (h16 : a16.IsWhole) (a17 : Memref sig .tc .vmem S128x512 .bf16) (h17 : a17.IsWhole) (a18 : Memref sig .tc .vmem S128x1024 .bf16) (h18 : a18.IsWhole) (a19 : Memref sig .tc .vmem S128x512 .bf16) (h19 : a19.IsWhole) (a20 : Memref sig .tc .vmem S128x1024 .bf16) (h20 : a20.IsWhole) (a21 : Memref sig .tc .vmem S512x4096 .bf16) (h21 : a21.IsWhole) (a22 : Memref sig .tc .vmem S128x128 .f32) (h22 : a22.IsWhole)
    (x0 : Vec Ideal S2048x4096 .bf16) (x1 : Vec Ideal S1x32x16x4096 .f32) (x2 : Vec Ideal S128x2048 .f32) (x3 : Vec Ideal S128x512 .f32) (x4 : Vec Ideal S128x512 .f32) (x5 : Vec Ideal S128x512 .f32) (x6 : Vec Ideal S128x512 .f32) (x7 : Vec Ideal S128x512 .f32) (x8 : Vec Ideal S128x512 .f32) (x9 : Vec Ideal S128x128 .f32) (x10 : Vec Ideal S128x128 .f32)

/-- The recurrent columns. -/
theorem out11 : out0_A_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = k0_pay2 x0 (k0_pay1 (k0_pay181 x1)) := by
  unfold out0_A_11
  rw [View.read_writes_eq_canon _ _ _ (cover0_A_11 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  unfold kernelRun0_A
  dsimp only
  sl_unfold_words
  rw [View.canon_unit_zero (S := S2048x512) hz, View.readCov_unit_zero (S := S512x4096) _ hz]
  simp only [View.readAt_eq_ld, h2.read_unread, h3.read_unread, View.ld_unit_zero (S := S2048x4096) hz, View.ld_unit_zero (S := S1x32x16x4096) hz4]

/-- The queries. -/
theorem out12 : out0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = E12 x2 x9 x10 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (E12 x2 x9 x10) _ ?_ y (cover0_A_12 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact q_piece h11 h12 h4 x2 x9 x10 15 _ _ _ inb_S128x2048_S128x128_0_1920
  refine List.forall_mem_cons.2 ⟨?_, ?_⟩
  · exact q_piece h11 h12 h4 x2 x9 x10 14 _ _ _ inb_S128x2048_S128x128_0_1792
  refine List.forall_mem_cons.2 ⟨?_, ?_⟩
  · exact q_piece h11 h12 h4 x2 x9 x10 13 _ _ _ inb_S128x2048_S128x128_0_1664
  refine List.forall_mem_cons.2 ⟨?_, ?_⟩
  · exact q_piece h11 h12 h4 x2 x9 x10 12 _ _ _ inb_S128x2048_S128x128_0_1536
  refine List.forall_mem_cons.2 ⟨?_, ?_⟩
  · exact q_piece h11 h12 h4 x2 x9 x10 11 _ _ _ inb_S128x2048_S128x128_0_1408
  refine List.forall_mem_cons.2 ⟨?_, ?_⟩
  · exact q_piece h11 h12 h4 x2 x9 x10 10 _ _ _ inb_S128x2048_S128x128_0_1280
  refine List.forall_mem_cons.2 ⟨?_, ?_⟩
  · exact q_piece h11 h12 h4 x2 x9 x10 9 _ _ _ inb_S128x2048_S128x128_0_1152
  refine List.forall_mem_cons.2 ⟨?_, ?_⟩
  · exact q_piece h11 h12 h4 x2 x9 x10 8 _ _ _ inb_S128x2048_S128x128_0_1024
  refine List.forall_mem_cons.2 ⟨?_, ?_⟩
  · exact q_piece h11 h12 h4 x2 x9 x10 7 _ _ _ inb_S128x2048_S128x128_0_896
  refine List.forall_mem_cons.2 ⟨?_, ?_⟩
  · exact q_piece h11 h12 h4 x2 x9 x10 6 _ _ _ inb_S128x2048_S128x128_0_768
  refine List.forall_mem_cons.2 ⟨?_, ?_⟩
  · exact q_piece h11 h12 h4 x2 x9 x10 5 _ _ _ inb_S128x2048_S128x128_0_640
  refine List.forall_mem_cons.2 ⟨?_, ?_⟩
  · exact q_piece h11 h12 h4 x2 x9 x10 4 _ _ _ inb_S128x2048_S128x128_0_512
  refine List.forall_mem_cons.2 ⟨?_, ?_⟩
  · exact q_piece h11 h12 h4 x2 x9 x10 3 _ _ _ inb_S128x2048_S128x128_0_384
  refine List.forall_mem_cons.2 ⟨?_, ?_⟩
  · exact q_piece h11 h12 h4 x2 x9 x10 2 _ _ _ inb_S128x2048_S128x128_0_256
  refine List.forall_mem_cons.2 ⟨?_, ?_⟩
  · exact q_piece h11 h12 h4 x2 x9 x10 1 _ _ _ inb_S128x2048_S128x128_0_128
  refine List.forall_mem_cons.2 ⟨?_, ?_⟩
  · exact q_piece h11 h12 h4 x2 x9 x10 0 _ _ _ inb_S128x2048_S128x128_0_0
  exact fun p hp => absurd hp List.not_mem_nil

/-- The selection's keys. -/
theorem out15 : out0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = E15 x5 x9 x10 := by
  unfold out0_A_15
  rw [View.read_writes_eq_canon _ _ _ (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (E15 x5 x9 x10) _ ?_ y (cover0_A_15 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact k_piece h11 h12 h7 x5 x9 x10 3 _ _ _ inb_S128x512_S128x128_0_384
  refine List.forall_mem_cons.2 ⟨?_, ?_⟩
  · exact k_piece h11 h12 h7 x5 x9 x10 2 _ _ _ inb_S128x512_S128x128_0_256
  refine List.forall_mem_cons.2 ⟨?_, ?_⟩
  · exact k_piece h11 h12 h7 x5 x9 x10 1 _ _ _ inb_S128x512_S128x128_0_128
  refine List.forall_mem_cons.2 ⟨?_, ?_⟩
  · exact k_piece h11 h12 h7 x5 x9 x10 0 _ _ _ inb_S128x512_S128x128_0_0
  exact fun p hp => absurd hp List.not_mem_nil

/-- The selection's values. -/
theorem out16 : out0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = E16 x6 := by
  unfold out0_A_16
  rw [View.read_writes_eq_canon _ _ _ (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (E16 x6) _ ?_ y (cover0_A_16 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact one_piece x6 3 inb_S128x1024_S128x128_0_896
  refine List.forall_mem_cons.2 ⟨?_, ?_⟩
  · exact v_piece h8 x6 3 _ inb_S128x1024_S128x128_0_768
  refine List.forall_mem_cons.2 ⟨?_, ?_⟩
  · exact one_piece x6 2 inb_S128x1024_S128x128_0_640
  refine List.forall_mem_cons.2 ⟨?_, ?_⟩
  · exact v_piece h8 x6 2 _ inb_S128x1024_S128x128_0_512
  refine List.forall_mem_cons.2 ⟨?_, ?_⟩
  · exact one_piece x6 1 inb_S128x1024_S128x128_0_384
  refine List.forall_mem_cons.2 ⟨?_, ?_⟩
  · exact v_piece h8 x6 1 _ inb_S128x1024_S128x128_0_256
  refine List.forall_mem_cons.2 ⟨?_, ?_⟩
  · exact one_piece x6 0 inb_S128x1024_S128x128_0_128
  refine List.forall_mem_cons.2 ⟨?_, ?_⟩
  · exact v_piece h8 x6 0 _ inb_S128x1024_S128x128_0_0
  exact fun p hp => absurd hp List.not_mem_nil

/-- The window's keys. -/
theorem out17 : out0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = E15 x7 x9 x10 := by
  unfold out0_A_17
  rw [View.read_writes_eq_canon _ _ _ (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (E15 x7 x9 x10) _ ?_ y (cover0_A_17 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact k_piece h11 h12 h9 x7 x9 x10 3 _ _ _ inb_S128x512_S128x128_0_384
  refine List.forall_mem_cons.2 ⟨?_, ?_⟩
  · exact k_piece h11 h12 h9 x7 x9 x10 2 _ _ _ inb_S128x512_S128x128_0_256
  refine List.forall_mem_cons.2 ⟨?_, ?_⟩
  · exact k_piece h11 h12 h9 x7 x9 x10 1 _ _ _ inb_S128x512_S128x128_0_128
  refine List.forall_mem_cons.2 ⟨?_, ?_⟩
  · exact k_piece h11 h12 h9 x7 x9 x10 0 _ _ _ inb_S128x512_S128x128_0_0
  exact fun p hp => absurd hp List.not_mem_nil

/-- The window's values. -/
theorem out18 : out0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = E16 x8 := by
  unfold out0_A_18
  rw [View.read_writes_eq_canon _ _ _ (cover0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (E16 x8) _ ?_ y (cover0_A_18 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact one_piece x8 3 inb_S128x1024_S128x128_0_896
  refine List.forall_mem_cons.2 ⟨?_, ?_⟩
  · exact v_piece h10 x8 3 _ inb_S128x1024_S128x128_0_768
  refine List.forall_mem_cons.2 ⟨?_, ?_⟩
  · exact one_piece x8 2 inb_S128x1024_S128x128_0_640
  refine List.forall_mem_cons.2 ⟨?_, ?_⟩
  · exact v_piece h10 x8 2 _ inb_S128x1024_S128x128_0_512
  refine List.forall_mem_cons.2 ⟨?_, ?_⟩
  · exact one_piece x8 1 inb_S128x1024_S128x128_0_384
  refine List.forall_mem_cons.2 ⟨?_, ?_⟩
  · exact v_piece h10 x8 1 _ inb_S128x1024_S128x128_0_256
  refine List.forall_mem_cons.2 ⟨?_, ?_⟩
  · exact one_piece x8 0 inb_S128x1024_S128x128_0_128
  refine List.forall_mem_cons.2 ⟨?_, ?_⟩
  · exact v_piece h10 x8 0 _ inb_S128x1024_S128x128_0_0
  exact fun p hp => absurd hp List.not_mem_nil

end Cert.KernelIdeal.InprojRec
end
-- ==== Proof.RecKeyGroups.lean ====
/-
  WHAT ONE POINT LEAVES IN EACH RESULT'S BUFFER (`KernelIdeal`): the stores of the body, each a tile of one function of the block's
  index, put together.
-/
module

public import proofs.«01_k».proof.Defs
public import proofs.«01_k».proof.Proof.RecBlock
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

variable (c : Dev nD) (i : grid0.Coords) (a2 : Memref sig .tc .vmem S2048x4096 .bf16) (h2 : a2.IsWhole) (a3 : Memref sig .tc .vmem S1x32x16x4096 .f32) (h3 : a3.IsWhole) (a4 : Memref sig .tc .vmem S128x2048 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x128 .f32) (h11 : a11.IsWhole) (a12 : Memref sig .tc .vmem S128x128 .f32) (h12 : a12.IsWhole) (a13 : Memref sig .tc .vmem S2048x512 .f32) (h13 : a13.IsWhole) (a14 : Memref sig .tc .vmem S128x2048 .bf16) (h14 : a14.IsWhole) (a15 : Memref sig .tc .vmem S1x4x8x2048 .f32) (h15 : a15.IsWhole) (a16 : Memref sig .tc .vmem S1x4x8x2048 .f32) (h16 : a16.IsWhole) (a17 : Memref sig .tc .vmem S128x512 .bf16) (h17 : a17.IsWhole) (a18 : Memref sig .tc .vmem S128x1024 .bf16) (h18 : a18.IsWhole) (a19 : Memref sig .tc .vmem S128x512 .bf16) (h19 : a19.IsWhole) (a20 : Memref sig .tc .vmem S128x1024 .bf16) (h20 : a20.IsWhole) (a21 : Memref sig .tc .vmem S512x4096 .bf16) (h21 : a21.IsWhole) (a22 : Memref sig .tc .vmem S128x128 .f32) (h22 : a22.IsWhole)
    (x0 : Vec Ideal S2048x4096 .bf16) (x1 : Vec Ideal S1x32x16x4096 .f32) (x2 : Vec Ideal S128x2048 .f32) (x3 : Vec Ideal S128x512 .f32) (x4 : Vec Ideal S128x512 .f32) (x5 : Vec Ideal S128x512 .f32) (x6 : Vec Ideal S128x512 .f32) (x7 : Vec Ideal S128x512 .f32) (x8 : Vec Ideal S128x512 .f32) (x9 : Vec Ideal S128x128 .f32) (x10 : Vec Ideal S128x128 .f32)

set_option maxHeartbeats 4000000 in
/-- The compression's keys, turned, in groups of 16 positions. -/
theorem out13 : out0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = groups (fun r q => turn (W := 512) x3 x9 x10 r q.val q.isLt (by decide)) := by
  unfold out0_A_13
  rw [View.read_writes_eq_canon _ _ _ (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (groups (fun r q => turn (W := 512) x3 x9 x10 r q.val q.isLt (by decide))) _ ?_ y (cover0_A_13 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact group_piece a22 (fun r q => turn (W := 512) x3 x9 x10 r q.val q.isLt (by decide)) _ 3 15 _ _ _ inb_S1x4x8x2048_S1x1x8x128_0_3_0_1920 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 14 _ _ _ inb_S1x4x8x2048_S1x1x8x128_0_3_0_1792 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 13 _ _ _ inb_S1x4x8x2048_S1x1x8x128_0_3_0_1664 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 12 _ _ _ inb_S1x4x8x2048_S1x1x8x128_0_3_0_1536 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 11 _ _ _ inb_S1x4x8x2048_S1x1x8x128_0_3_0_1408 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 10 _ _ _ inb_S1x4x8x2048_S1x1x8x128_0_3_0_1280 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 9 _ _ _ inb_S1x4x8x2048_S1x1x8x128_0_3_0_1152 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 8 _ _ _ inb_S1x4x8x2048_S1x1x8x128_0_3_0_1024 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 7 _ _ _ inb_S1x4x8x2048_S1x1x8x128_0_3_0_896 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 6 _ _ _ inb_S1x4x8x2048_S1x1x8x128_0_3_0_768 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 5 _ _ _ inb_S1x4x8x2048_S1x1x8x128_0_3_0_640 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 4 _ _ _ inb_S1x4x8x2048_S1x1x8x128_0_3_0_512 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 3 _ _ _ inb_S1x4x8x2048_S1x1x8x128_0_3_0_384 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 2 _ _ _ inb_S1x4x8x2048_S1x1x8x128_0_3_0_256 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 1 _ _ _ inb_S1x4x8x2048_S1x1x8x128_0_3_0_128 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 3 0 _ _ _ inb_S1x4x8x2048_S1x1x8x128_0_3_0_0 (by decide) (by decide) (turn_rows h11 h12 h5 x3 x9 x10 3 _ _ _ (by decide))
  refine List.forall_mem_cons.2 ⟨?_, ?_⟩
  · exact group_piece a22 (fun r q => turn (W := 512) x3 x9 x10 r q.val q.isLt (by decide)) _ 2 15 _ _ _ inb_S1x4x8x2048_S1x1x8x128_0_2_0_1920 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 14 _ _ _ inb_S1x4x8x2048_S1x1x8x128_0_2_0_1792 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 13 _ _ _ inb_S1x4x8x2048_S1x1x8x128_0_2_0_1664 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 12 _ _ _ inb_S1x4x8x2048_S1x1x8x128_0_2_0_1536 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 11 _ _ _ inb_S1x4x8x2048_S1x1x8x128_0_2_0_1408 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 10 _ _ _ inb_S1x4x8x2048_S1x1x8x128_0_2_0_1280 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 9 _ _ _ inb_S1x4x8x2048_S1x1x8x128_0_2_0_1152 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 8 _ _ _ inb_S1x4x8x2048_S1x1x8x128_0_2_0_1024 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 7 _ _ _ inb_S1x4x8x2048_S1x1x8x128_0_2_0_896 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 6 _ _ _ inb_S1x4x8x2048_S1x1x8x128_0_2_0_768 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 5 _ _ _ inb_S1x4x8x2048_S1x1x8x128_0_2_0_640 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 4 _ _ _ inb_S1x4x8x2048_S1x1x8x128_0_2_0_512 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 3 _ _ _ inb_S1x4x8x2048_S1x1x8x128_0_2_0_384 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 2 _ _ _ inb_S1x4x8x2048_S1x1x8x128_0_2_0_256 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 1 _ _ _ inb_S1x4x8x2048_S1x1x8x128_0_2_0_128 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 2 0 _ _ _ inb_S1x4x8x2048_S1x1x8x128_0_2_0_0 (by decide) (by decide) (turn_rows h11 h12 h5 x3 x9 x10 2 _ _ _ (by decide))
  refine List.forall_mem_cons.2 ⟨?_, ?_⟩
  · exact group_piece a22 (fun r q => turn (W := 512) x3 x9 x10 r q.val q.isLt (by decide)) _ 1 15 _ _ _ inb_S1x4x8x2048_S1x1x8x128_0_1_0_1920 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 14 _ _ _ inb_S1x4x8x2048_S1x1x8x128_0_1_0_1792 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 13 _ _ _ inb_S1x4x8x2048_S1x1x8x128_0_1_0_1664 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 12 _ _ _ inb_S1x4x8x2048_S1x1x8x128_0_1_0_1536 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 11 _ _ _ inb_S1x4x8x2048_S1x1x8x128_0_1_0_1408 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 10 _ _ _ inb_S1x4x8x2048_S1x1x8x128_0_1_0_1280 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 9 _ _ _ inb_S1x4x8x2048_S1x1x8x128_0_1_0_1152 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 8 _ _ _ inb_S1x4x8x2048_S1x1x8x128_0_1_0_1024 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 7 _ _ _ inb_S1x4x8x2048_S1x1x8x128_0_1_0_896 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 6 _ _ _ inb_S1x4x8x2048_S1x1x8x128_0_1_0_768 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 5 _ _ _ inb_S1x4x8x2048_S1x1x8x128_0_1_0_640 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 4 _ _ _ inb_S1x4x8x2048_S1x1x8x128_0_1_0_512 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 3 _ _ _ inb_S1x4x8x2048_S1x1x8x128_0_1_0_384 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 2 _ _ _ inb_S1x4x8x2048_S1x1x8x128_0_1_0_256 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 1 _ _ _ inb_S1x4x8x2048_S1x1x8x128_0_1_0_128 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 1 0 _ _ _ inb_S1x4x8x2048_S1x1x8x128_0_1_0_0 (by decide) (by decide) (turn_rows h11 h12 h5 x3 x9 x10 1 _ _ _ (by decide))
  refine List.forall_mem_cons.2 ⟨?_, ?_⟩
  · exact group_piece a22 (fun r q => turn (W := 512) x3 x9 x10 r q.val q.isLt (by decide)) _ 0 15 _ _ _ inb_S1x4x8x2048_S1x1x8x128_0_0_0_1920 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 14 _ _ _ inb_S1x4x8x2048_S1x1x8x128_0_0_0_1792 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 13 _ _ _ inb_S1x4x8x2048_S1x1x8x128_0_0_0_1664 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 12 _ _ _ inb_S1x4x8x2048_S1x1x8x128_0_0_0_1536 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 11 _ _ _ inb_S1x4x8x2048_S1x1x8x128_0_0_0_1408 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 10 _ _ _ inb_S1x4x8x2048_S1x1x8x128_0_0_0_1280 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 9 _ _ _ inb_S1x4x8x2048_S1x1x8x128_0_0_0_1152 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 8 _ _ _ inb_S1x4x8x2048_S1x1x8x128_0_0_0_1024 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 7 _ _ _ inb_S1x4x8x2048_S1x1x8x128_0_0_0_896 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 6 _ _ _ inb_S1x4x8x2048_S1x1x8x128_0_0_0_768 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 5 _ _ _ inb_S1x4x8x2048_S1x1x8x128_0_0_0_640 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 4 _ _ _ inb_S1x4x8x2048_S1x1x8x128_0_0_0_512 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 3 _ _ _ inb_S1x4x8x2048_S1x1x8x128_0_0_0_384 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 2 _ _ _ inb_S1x4x8x2048_S1x1x8x128_0_0_0_256 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 1 _ _ _ inb_S1x4x8x2048_S1x1x8x128_0_0_0_128 (by decide) (by decide) (turn_rows h11 h12 h5 x3 x9 x10 0 _ _ _ (by decide))
  refine List.forall_mem_cons.2 ⟨?_, ?_⟩
  · exact group_piece a22 (fun r q => turn (W := 512) x3 x9 x10 r q.val q.isLt (by decide)) _ 0 0 _ _ _ inb_S1x4x8x2048_S1x1x8x128_0_0_0_0 (by decide) (by decide) (turn_rows h11 h12 h5 x3 x9 x10 0 _ _ _ (by decide))
  exact fun p hp => absurd hp List.not_mem_nil

end Cert.KernelIdeal.InprojRec
end
-- ==== Proof.RecValueGroups.lean ====
/-
  WHAT ONE POINT LEAVES IN EACH RESULT'S BUFFER (`KernelIdeal`): the stores of the body, each a tile of one function of the block's
  index, put together.
-/
module

public import proofs.«01_k».proof.Defs
public import proofs.«01_k».proof.Proof.RecBlock
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

variable (c : Dev nD) (i : grid0.Coords) (a2 : Memref sig .tc .vmem S2048x4096 .bf16) (h2 : a2.IsWhole) (a3 : Memref sig .tc .vmem S1x32x16x4096 .f32) (h3 : a3.IsWhole) (a4 : Memref sig .tc .vmem S128x2048 .f32) (h4 : a4.IsWhole) (a5 : Memref sig .tc .vmem S128x512 .f32) (h5 : a5.IsWhole) (a6 : Memref sig .tc .vmem S128x512 .f32) (h6 : a6.IsWhole) (a7 : Memref sig .tc .vmem S128x512 .f32) (h7 : a7.IsWhole) (a8 : Memref sig .tc .vmem S128x512 .f32) (h8 : a8.IsWhole) (a9 : Memref sig .tc .vmem S128x512 .f32) (h9 : a9.IsWhole) (a10 : Memref sig .tc .vmem S128x512 .f32) (h10 : a10.IsWhole) (a11 : Memref sig .tc .vmem S128x128 .f32) (h11 : a11.IsWhole) (a12 : Memref sig .tc .vmem S128x128 .f32) (h12 : a12.IsWhole) (a13 : Memref sig .tc .vmem S2048x512 .f32) (h13 : a13.IsWhole) (a14 : Memref sig .tc .vmem S128x2048 .bf16) (h14 : a14.IsWhole) (a15 : Memref sig .tc .vmem S1x4x8x2048 .f32) (h15 : a15.IsWhole) (a16 : Memref sig .tc .vmem S1x4x8x2048 .f32) (h16 : a16.IsWhole) (a17 : Memref sig .tc .vmem S128x512 .bf16) (h17 : a17.IsWhole) (a18 : Memref sig .tc .vmem S128x1024 .bf16) (h18 : a18.IsWhole) (a19 : Memref sig .tc .vmem S128x512 .bf16) (h19 : a19.IsWhole) (a20 : Memref sig .tc .vmem S128x1024 .bf16) (h20 : a20.IsWhole) (a21 : Memref sig .tc .vmem S512x4096 .bf16) (h21 : a21.IsWhole) (a22 : Memref sig .tc .vmem S128x128 .f32) (h22 : a22.IsWhole)
    (x0 : Vec Ideal S2048x4096 .bf16) (x1 : Vec Ideal S1x32x16x4096 .f32) (x2 : Vec Ideal S128x2048 .f32) (x3 : Vec Ideal S128x512 .f32) (x4 : Vec Ideal S128x512 .f32) (x5 : Vec Ideal S128x512 .f32) (x6 : Vec Ideal S128x512 .f32) (x7 : Vec Ideal S128x512 .f32) (x8 : Vec Ideal S128x512 .f32) (x9 : Vec Ideal S128x128 .f32) (x10 : Vec Ideal S128x128 .f32)

set_option maxHeartbeats 4000000 in
/-- The compression's values, in groups of 16 positions. -/
theorem out14 : out0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10
    = groups (fun r q => x4 (ix2 r q)) := by
  unfold out0_A_14
  rw [View.read_writes_eq_canon _ _ _ (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10)]
  funext y
  refine View.canon_apply_of_pieces (groups (fun r q => x4 (ix2 r q))) _ ?_ y (cover0_A_14 c i a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 x0 x1 x2 x3 x4 x5 x6 x7 x8 x9 x10 y)
  unfold kernelRun0_A
  dsimp only
  sl_unfold_words
  refine List.forall_mem_cons.2 ⟨?_, ?_⟩
  · exact group_piece a22 (fun r q => x4 (ix2 r q)) _ 3 15 _ _ _ inb_S1x4x8x2048_S1x1x8x128_0_3_0_1920 (by decide) (by decide) (plain_rows h6 x4 3 _ (by decide))
  refine List.forall_mem_cons.2 ⟨?_, ?_⟩
  · exact group_piece a22 (fun r q => x4 (ix2 r q)) _ 3 14 _ _ _ inb_S1x4x8x2048_S1x1x8x128_0_3_0_1792 (by decide) (by decide) (plain_rows h6 x4 3 _ (by decide))
  refine List.forall_mem_cons.2 ⟨?_, ?_⟩
  · exact group_piece a22 (fun r q => x4 (ix2 r q)) _ 3 13 _ _ _ inb_S1x4x8x2048_S1x1x8x128_0_3_0_1664 (by decide) (by decide) (plain_rows h6 x4 3 _ (by decide))
  refine List.forall_mem_cons.2 ⟨?_, ?_⟩
  · exact group_piece a22 (fun r q => x4 (ix2 r q)) _ 3 12 _ _ _ inb_S1x4x8x2048_S1x1x8x128_0_3_0_1536 (by decide) (by decide) (plain_rows h6 x4 3 _ (by decide))
  refine List.forall_mem_cons.2 ⟨?_, ?_⟩
  · exact group_piece a22 (fun r q => x4 (ix2 r q)) _ 3 11 _ _ _ inb_S1x4x8x2048_S1x1x8x128_0_3_0_1408 (by decide) (by decide) (plain_rows h6 x4 3 _ (by decide))
  refine List.forall_mem_cons.2 ⟨?_, ?_⟩
  · exact group_piece a22 (fun r q => x4 (ix2 r q)) _ 3 10 _ _ _ inb_S1x4x8x2048_S1x1x8x128_0_3_0_1280 (by decide) (by decide) (plain_rows h6 x4 3 _ (by decide))
  refine List.forall_mem_cons.2 ⟨?_, ?_⟩
  · exact group_piece a22 (fun r q => x4 (ix2 r q)) _ 3 9 _ _ _ inb_S1x4x8x2048_S1x1x8x128_0_3_0_1152 (by decide) (by decide) (plain_rows h6 x4 3 _ (by decide))
  refine List.forall_mem_cons.2 ⟨?_, ?_⟩
  · exact group_piece a22 (fun r q => x4 (ix2 r q)) _ 3 8 _ _ _ inb_S1x4x8x2048_S1x1x8x128_0_3_0_1024 (by decide) (by decide) (plain_rows h6 x4 3 _ (by decide))
  refine List.forall_mem_cons.2 ⟨?_, ?_⟩
  · exact group_piece a22 (fun r q => x4 (ix2 r q)) _ 3 7 _ _ _ inb_S1x4x8x2048_S1x1x8x128_0_3_0_896 (by decide) (by decide) (plain_rows h6 x4 3 _ (by decide))
  refine List.forall_mem_cons.2 ⟨?_, ?_⟩
  · exact group_piece a22 (fun r q => x4 (ix2 r q)) _ 3 6 _ _ _ inb_S1x4x8x2048_S1x1x8x128_0_3_0_768 (by decide) (by decide) (plain_rows h6 x4 3 _ (by decide))
  refine List.forall_mem_cons.2 ⟨?_, ?_⟩
  · exact group_piece a22 (fun r q => x4 (ix2 r q)) _ 3 5 _ _ _ inb_S1x4x8x2048_S1x1x8x128_0_3_0_640 (by decide) (by decide) (plain_rows h6 x4 3 _ (by decide))
  refine List.forall_mem_cons.2 ⟨?_, ?_⟩
  · exact group_piece a22 (fun r q => x4 (ix2 r q)) _ 3 4 _ _ _ inb_S1x4x8x2048_S1x1x8x128_0_3_0_512 (by decide) (by decide) (plain_rows h6 x4 3 _ (by decide))
  refine List.forall_mem_cons.2 ⟨?_, ?_⟩
  · exact group_piece a22 (fun r q => x4 (ix2 r q)) _ 3 3 _ _ _ inb_S1x4x8x2048_S1x1x8x128_0_3_0_384 (by decide) (by decide) (plain_rows h6 x4 3 _ (by decide))
  refine List.forall_mem_cons.2 ⟨?_, ?_⟩
  · exact group_piece a22 (fun r q => x4 (ix2 r q)) _ 3 2 _ _ _ inb_S1x4x8x2048_S1x1x8x128_0_3_0_256 (by decide) (by decide) (plain_rows h6 x4 3 _ (by decide))
  refine List.forall_mem_cons.2 ⟨?_, ?_⟩
  · exact group_piece a22 (fun r q => x4 (ix2 r q)) _ 3 1 _ _ _ inb_S1x4x8x2048_S1x1x8x128_0_3_0_128 (by decide) (by decide) (plain_rows h6 x4 3 _ (by decide))
  refine List.forall_mem_cons.2 ⟨?_, ?_⟩
  · exact group_piece a22 (fun r q => x4 (ix2 r q)) _ 3 0 _ _ _ inb_S1x4x8x2048_S1x1x8x128_0_3_0_0 (by decide) (by decide) (plain_rows h6 x4 3 _ (by decide))
  refine List.forall_mem_cons.2 ⟨?_, ?_⟩
  · exact group_piece a22 (fun r q => x4 (ix2 r q)) _ 2 15 _ _ _ inb_S1x4x8x2048_S1x1x8x128_0_2_0_1920 (by decide) (by decide) (plain_rows h6 x4 2 _ (by decide))
  refine List.forall_mem_cons.2 ⟨?_, ?_⟩
  · exact group_piece a22 (fun r q => x4 (ix2 r q)) _ 2 14 _ _ _ inb_S1x4x8x2048_S1x1x8x128_0_2_0_1792 (by decide) (by decide) (plain_rows h6 x4 2 _ (by decide))
  refine List.forall_mem_cons.2 ⟨?_, ?_⟩
  · exact group_piece a22 (fun r q => x4 (ix2 r q)) _ 2 13 _ _ _ inb_S1x4x8x2048_S1x1x8x128_0_2_0_1664 (by decide) (by decide) (plain_rows h6 x4 2 _ (by decide))
  refine List.forall_mem_cons.2 ⟨?_, ?_⟩
  · exact group_piece a22 (fun r q => x4 (ix2 r q)) _ 2 12 _ _ _ inb_S1x4x8x2048_S1x1x8x128_0_2_0_1536 (by decide) (by decide) (plain_rows h6 x4 2 _ (by decide))
  refine List.forall_mem_cons.2 ⟨?_, ?_⟩
  · exact group_piece a22 (fun r q => x4 (ix2 r q)) _ 2 11 _ _ _ inb_S1x4x8x2048_S1x1x8x128_0_2_0_1408 (by decide) (by decide) (plain_rows h6 x4 2 _ (by decide))
  refine List.forall_mem_cons.2 ⟨?_, ?_⟩
  · exact group_piece a22 (fun r q => x4 (ix2 r q)) _ 2 10 _ _ _ inb_S1x4x8x2048_S1x1x8x128_0_2_0_1280 (by decide) (by decide) (plain_rows h6 x4 2 _ (by decide))
  refine List.forall_mem_cons.2 ⟨?_, ?_⟩
  · exact group_piece a22 (fun r q => x4 (ix2 r q)) _ 2 9 _ _ _ inb_S1x4x8x2048_S1x1x8x128_0_2_0_1152 (by decide) (by decide) (plain_rows h6 x4 2 _ (by decide))
  refine List.forall_mem_cons.2 ⟨?_, ?_⟩
  · exact group_piece a22 (fun r q => x4 (ix2 r q)) _ 2 8 _ _ _ inb_S1x4x8x2048_S1x1x8x128_0_2_0_1024 (by decide) (by decide) (plain_rows h6 x4 2 _ (by decide))
  refine List.forall_mem_cons.2 ⟨?_, ?_⟩
  · exact group_piece a22 (fun r q => x4 (ix2 r q)) _ 2 7 _ _ _ inb_S1x4x8x2048_S1x1x8x128_0_2_0_896 (by decide) (by decide) (plain_rows h6 x4 2 _ (by decide))
  refine List.forall_mem_cons.2 ⟨?_, ?_⟩
  · exact group_piece a22 (fun r q => x4 (ix2 r q)) _ 2 6 _ _ _ inb_S1x4x8x2048_S1x1x8x128_0_2_0_768 (by decide) (by decide) (plain_rows h6 x4 2 _ (by decide))
  refine List.forall_mem_cons.2 ⟨?_, ?_⟩
  · exact group_piece a22 (fun r q => x4 (ix2 r q)) _ 2 5 _ _ _ inb_S1x4x8x2048_S1x1x8x128_0_2_0_640 (by decide) (by decide) (plain_rows h6 x4 2 _ (by decide))
  refine List.forall_mem_cons.2 ⟨?_, ?_⟩
  · exact group_piece a22 (fun r q => x4 (ix2 r q)) _ 2 4 _ _ _ inb_S1x4x8x2048_S1x1x8x128_0_2_0_512 (by decide) (by decide) (plain_rows h6 x4 2 _ (by decide))
  refine List.forall_mem_cons.2 ⟨?_, ?_⟩
  · exact group_piece a22 (fun r q => x4 (ix2 r q)) _ 2 3 _ _ _ inb_S1x4x8x2048_S1x1x8x128_0_2_0_384 (by decide) (by decide) (plain_rows h6 x4 2 _ (by decide))
  refine List.forall_mem_cons.2 ⟨?_, ?_⟩
  · exact group_piece a22 (fun r q => x4 (ix2 r q)) _ 2 2 _ _ _ inb_S1x4x8x2048_S1x1x8x128_0_2_0_256 (by decide) (by decide) (plain_rows h6 x4 2 _ (by decide))
  refine List.forall_mem_cons.2 ⟨?_, ?_⟩
  · exact group_piece a22 (fun r q => x4 (ix2 r q)) _ 2 1 _ _ _ inb_S1x4x8x2048_S1x1x8x128_0_2_0_128 (by decide) (by decide) (plain_rows h6 x4 2 _ (by decide))
  refine List.forall_mem_cons.2 ⟨?_, ?_⟩
  · exact group_piece a22 (fun r q => x4 (ix2 r q)) _ 2 0 _ _ _ inb_S1x4x8x2048_S1x1x8x128_0_2_0_0 (by decide) (by decide) (plain_rows h6 x4 2 _ (by decide))
  refine List.forall_mem_cons.2 ⟨?_, ?_⟩
  · exact group_piece a22 (fun r q => x4 (ix2 r q)) _ 1 15 _ _ _ inb_S1x4x8x2048_S1x1x8x128_0_1_0_1920 (by decide) (by decide) (plain_rows h6 x4 1 _ (by decide))
  refine List.forall_mem_cons.2 ⟨?_, ?_⟩
  · exact group_piece a22 (fun r q => x4 (ix2 r q)) _ 1 14 _ _ _ inb_S1x4x8x2048_S1x1x8x128_0_1_0_1792 (by decide) (by decide) (plain_rows h6 x4 1 _ (by decide))
  refine List.forall_mem_cons.2 ⟨?_, ?_⟩
  · exact group_piece a22 (fun r q => x4 (ix2 r q)) _ 1 13 _ _ _ inb_S1x4x8x2048_S1x1x8x128_0_1_0_1664 (by decide) (by decide) (plain_rows h6 x4 1 _ (by decide))
  refine List.forall_mem_cons.2 ⟨?_, ?_⟩
  · exact group_piece a22 (fun r q => x4 (ix2 r q)) _ 1 12 _ _ _ inb_S1x4x8x2048_S1x1x8x128_0_1_0_1536 (by decide) (by decide) (plain_rows h6 x4 1 _ (by decide))
  refine List.forall_mem_cons.2 ⟨?_, ?_⟩
  · exact group_piece a22 (fun r q => x4 (ix2 r q)) _ 1 11 _ _ _ inb_S1x4x8x2048_S1x1x8x128_0_1_0_1408 (by decide) (by decide) (plain_rows h6 x4 1 _ (by decide))
  refine List.forall_mem_cons.2 ⟨?_, ?_⟩
  · exact group_piece a22 (fun r q => x4 (ix2 r q)) _ 1 10 _ _ _ inb_S1x4x8x2048_S1x1x8x128_0_1_0_1280 (by decide) (by decide) (plain_rows h6 x4 1 _ (by decide))
  refine List.forall_mem_cons.2 ⟨?_, ?_⟩
  · exact group_piece a22 (fun r q => x4 (ix2 r q)) _ 1 9 _ _ _ inb_S1x4x8x2048_S1x1x8x128_0_1_0_1152 (by decide) (by decide) (plain_rows h6 x4 1 _ (by decide))
  refine List.forall_mem_cons.2 ⟨?_, ?_⟩
  · exact group_piece a22 (fun r q => x4 (ix2 r q)) _ 1 8 _ _ _ inb_S1x4x8x2048_S1x1x8x128_0_1_0_1024 (by decide) (by decide) (plain_rows h6 x4 1 _ (by decide))
  refine List.forall_mem_cons.2 ⟨?_, ?_⟩
  · exact group_piece a22 (fun r q => x4 (ix2 r q)) _ 1 7 _ _ _ inb_S1x4x8x2048_S1x1x8x128_0_1_0_896 (by decide) (by decide) (plain_rows h6 x4 1 _ (by decide))
  refine List.forall_mem_cons.2 ⟨?_, ?_⟩
  · exact group_piece a22 (fun r q => x4 (ix2 r q)) _ 1 6 _ _ _ inb_S1x4x8x2048_S1x1x8x128_0_1_0_768 (by decide) (by decide) (plain_rows h6 x4 1 _ (by decide))
  refine List.forall_mem_cons.2 ⟨?_, ?_⟩
  · exact group_piece a22 (fun r q => x4 (ix2 r q)) _ 1 5 _ _ _ inb_S1x4x8x2048_S1x1x8x128_0_1_0_640 (by decide) (by decide) (plain_rows h6 x4 1 _ (by decide))
  refine List.forall_mem_cons.2 ⟨?_, ?_⟩
  · exact group_piece a22 (fun r q => x4 (ix2 r q)) _ 1 4 _ _ _ inb_S1x4x8x2048_S1x1x8x128_0_1_0_512 (by decide) (by decide) (plain_rows h6 x4 1 _ (by decide))
  refine List.forall_mem_cons.2 ⟨?_, ?_⟩
  · exact group_piece a22 (fun r q => x4 (ix2 r q)) _ 1 3 _ _ _ inb_S1x4x8x2048_S1x1x8x128_0_1_0_384 (by decide) (by decide) (plain_rows h6 x4 1 _ (by decide))
  refine List.forall_mem_cons.2 ⟨?_, ?_⟩
  · exact group_piece a22 (fun r q => x4 (ix2 r q)) _ 1 2 _ _ _ inb_S1x4x8x2048_S1x1x8x128_0_1_0_256 (by decide) (by decide) (plain_rows h6 x4 1 _ (by decide))
  refine List.forall_mem_cons.2 ⟨?_, ?_⟩
  · exact group_piece a22 (fun r q => x4 (ix2 r q)) _ 1 1 _ _ _ inb_S1x4x8x2048_S1x1x8x128_0_1_0_128 (by decide) (by decide) (plain_rows h6 x4 1 _ (by decide))
  refine List.forall_mem_cons.2 ⟨?_, ?_⟩
  · exact group_piece a22 (fun r q => x4 (ix2 r q)) _ 1 0 _ _ _ inb_S1x4x8x2048_S1x1x8x128_0_1_0_0 (by decide) (by decide) (plain_rows h6 x4 1 _ (by decide))
  refine List.forall_mem_cons.2 ⟨?_, ?_⟩
  · exact group_piece a22 (fun r q => x4 (ix2 r q)) _ 0 15 _ _ _ inb_S1x4x8x2048_S1x1x8x128_0_0_0_1920 (by decide) (by decide) (plain_rows h6 x4 0 _ (by decide))
  refine List.forall_mem_cons.2 ⟨?_, ?_⟩
  · exact group_piece a22 (fun r q => x4 (ix2 r q)) _ 0 14 _ _ _ inb_S1x4x8x2048_S1x1x8x128_0_0_0_1792 (by decide) (by decide) (plain_rows h6 x4 0 _ (by decide))
  refine List.forall_mem_cons.2 ⟨?_, ?_⟩
  · exact group_piece a22 (fun r q => x4 (ix2 r q)) _ 0 13 _ _ _ inb_S1x4x8x2048_S1x1x8x128_0_0_0_1664 (by decide) (by decide) (plain_rows h6 x4 0 _ (by decide))
  refine List.forall_mem_cons.2 ⟨?_, ?_⟩
  · exact group_piece a22 (fun r q => x4 (ix2 r q)) _ 0 12 _ _ _ inb_S1x4x8x2048_S1x1x8x128_0_0_0_1536 (by decide) (by decide) (plain_rows h6 x4 0 _ (by decide))
  refine List.forall_mem_cons.2 ⟨?_, ?_⟩
  · exact group_piece a22 (fun r q => x4 (ix2 r q)) _ 0 11 _ _ _ inb_S1x4x8x2048_S1x1x8x128_0_0_0_1408 (by decide) (by decide) (plain_rows h6 x4 0 _ (by decide))
  refine List.forall_mem_cons.2 ⟨?_, ?_⟩
  · exact group_piece a22 (fun r q => x4 (ix2 r q)) _ 0 10 _ _ _ inb_S1x4x8x2048_S1x1x8x128_0_0_0_1280 (by decide) (by decide) (plain_rows h6 x4 0 _ (by decide))
  refine List.forall_mem_cons.2 ⟨?_, ?_⟩
  · exact group_piece a22 (fun r q => x4 (ix2 r q)) _ 0 9 _ _ _ inb_S1x4x8x2048_S1x1x8x128_0_0_0_1152 (by decide) (by decide) (plain_rows h6 x4 0 _ (by decide))
  refine List.forall_mem_cons.2 ⟨?_, ?_⟩
  · exact group_piece a22 (fun r q => x4 (ix2 r q)) _ 0 8 _ _ _ inb_S1x4x8x2048_S1x1x8x128_0_0_0_1024 (by decide) (by decide) (plain_rows h6 x4 0 _ (by decide))
  refine List.forall_mem_cons.2 ⟨?_, ?_⟩
  · exact group_piece a22 (fun r q => x4 (ix2 r q)) _ 0 7 _ _ _ inb_S1x4x8x2048_S1x1x8x128_0_0_0_896 (by decide) (by decide) (plain_rows h6 x4 0 _ (by decide))
  refine List.forall_mem_cons.2 ⟨?_, ?_⟩
  · exact group_piece a22 (fun r q => x4 (ix2 r q)) _ 0 6 _ _ _ inb_S1x4x8x2048_S1x1x8x128_0_0_0_768 (by decide) (by decide) (plain_rows h6 x4 0 _ (by decide))
  refine List.forall_mem_cons.2 ⟨?_, ?_⟩
  · exact group_piece a22 (fun r q => x4 (ix2 r q)) _ 0 5 _ _ _ inb_S1x4x8x2048_S1x1x8x128_0_0_0_640 (by decide) (by decide) (plain_rows h6 x4 0 _ (by decide))
  refine List.forall_mem_cons.2 ⟨?_, ?_⟩
  · exact group_piece a22 (fun r q => x4 (ix2 r q)) _ 0 4 _ _ _ inb_S1x4x8x2048_S1x1x8x128_0_0_0_512 (by decide) (by decide) (plain_rows h6 x4 0 _ (by decide))
  refine List.forall_mem_cons.2 ⟨?_, ?_⟩
  · exact group_piece a22 (fun r q => x4 (ix2 r q)) _ 0 3 _ _ _ inb_S1x4x8x2048_S1x1x8x128_0_0_0_384 (by decide) (by decide) (plain_rows h6 x4 0 _ (by decide))
  refine List.forall_mem_cons.2 ⟨?_, ?_⟩
  · exact group_piece a22 (fun r q => x4 (ix2 r q)) _ 0 2 _ _ _ inb_S1x4x8x2048_S1x1x8x128_0_0_0_256 (by decide) (by decide) (plain_rows h6 x4 0 _ (by decide))
  refine List.forall_mem_cons.2 ⟨?_, ?_⟩
  · exact group_piece a22 (fun r q => x4 (ix2 r q)) _ 0 1 _ _ _ inb_S1x4x8x2048_S1x1x8x128_0_0_0_128 (by decide) (by decide) (plain_rows h6 x4 0 _ (by decide))
  refine List.forall_mem_cons.2 ⟨?_, ?_⟩
  · exact group_piece a22 (fun r q => x4 (ix2 r q)) _ 0 0 _ _ _ inb_S1x4x8x2048_S1x1x8x128_0_0_0_0 (by decide) (by decide) (plain_rows h6 x4 0 _ (by decide))
  exact fun p hp => absurd hp List.not_mem_nil

end Cert.KernelIdeal.InprojRec
end
-- ==== Proof.RecRef.lean ====
/-
  WHAT THE REFERENCE OF THE RECURRENT PROJECTION CALL COMPUTES (`ReferenceIdeal`), at an index: the recurrent columns of the
  projection; the queries and keys turned through their angles, half a head against the other; the compression's groups of 16
  positions; the values with their column of ones.
-/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

/-- The angles' cosines and sines, of each position and each of the 64 frequencies. -/
abbrev cosT : FVec Ideal S2048x64 .f32 := Cert.ReferenceIdeal.Read.val_main_v21 (F := Ideal)
abbrev sinT : FVec Ideal S2048x64 .f32 := Cert.ReferenceIdeal.Read.val_main_v22 (F := Ideal)

/-- A head `f` turned at position `t`, at lane `d`. -/
def rot (f : Fin 128 → EReal) (t : Fin 2048) (d : Fin 128) : EReal :=
  if h : d.val < 64 then f d * cosT (ix2 t ⟨d.val, h⟩) - f ⟨d.val + 64, by omega⟩ * sinT (ix2 t ⟨d.val, h⟩)
  else f d * cosT (ix2 t ⟨d.val - 64, by omega⟩) + f ⟨d.val - 64, by omega⟩ * sinT (ix2 t ⟨d.val - 64, by omega⟩)

/-- The position of a row. -/
abbrev pos (r : Nat) : Fin 2048 := ⟨r % 2048, Nat.mod_lt _ (by decide)⟩

/-- The head of columns `o` on of a row of the attention's projection. -/
abbrev headAt (p : FVec Ideal S8192x5120 .f32) (r : Fin 8192) (o : Nat) (ho : o + 128 ≤ 5120) : Fin 128 → EReal :=
  fun d => p (ix2 r ⟨o + d.val, by omega⟩)

/-- The row of position `16·n + c/128` of a batch, for an index `(batch, head, n, c)` of the groups, and the position. -/
abbrev grow (i : S4x4x128x2048.Idx) : Fin 8192 := ⟨(i 0).val * 2048 + ((i 2).val * 16 + (i 3).val / 128), by
  have : (i 0).val < 4 := (i 0).isLt
  have : (i 2).val < 128 := (i 2).isLt
  have : (i 3).val < 2048 := (i 3).isLt
  omega⟩
abbrev gpos (i : S4x4x128x2048.Idx) : Fin 2048 := ⟨(i 2).val * 16 + (i 3).val / 128, by
  have : (i 2).val < 128 := (i 2).isLt
  have : (i 3).val < 2048 := (i 3).isLt
  omega⟩

/-- Two names of one entry. -/
theorem at_eq (p : FVec Ideal S8192x5120 .f32) {r r' a a' : Nat} {hr : r < 8192} {hr' : r' < 8192} {ha : a < 5120} {ha' : a' < 5120}
    (er : r = r') (ea : a = a') : p (ix2 ⟨r, hr⟩ ⟨a, ha⟩) = p (ix2 ⟨r', hr'⟩ ⟨a', ha'⟩) := by
  subst er ea
  rfl

/-- Whether a lane is the first, as a number. -/
theorem one_or_zero (q : Fin 128) :
    FloatOps.uitofp (F := Ideal) .f32 (IntOp.cmpi .eq (BitVec.ofNat 32 q.val) 0#32) = if q.val = 0 then 1 else 0 := by
  have e : ∀ q : Fin 128, IntOp.cmpi .eq (BitVec.ofNat 32 q.val) 0#32 = if q.val = 0 then 1#1 else 0#1 := by decide
  rw [e q]
  split
  · show (((1#1 : BitVec 1).toNat : ℝ) : EReal) = 1
    simp
  · show (((0#1 : BitVec 1).toNat : ℝ) : EReal) = 0
    simp

/-- The recurrent columns. -/
theorem ref_rec (x : FVec Ideal S8192x4096 .bf16) (w : FVec Ideal S2x4096x13376 .f32) (i : S8192x8192.Idx) :
    Cert.ReferenceIdeal.Read.val_main_v4 (F := Ideal) x w i = ∑ k : Fin 4096, x (ix2 (i 0) k)
      * w (ix3 1 k ⟨(i 1).val, by have : (i 1).val < 8192 := (i 1).isLt; omega⟩) := by
  pointwise [Cert.ReferenceIdeal.Read.val_main_v0, Cert.ReferenceIdeal.Read.val_main_v1, Cert.ReferenceIdeal.Read.val_main_v2, Cert.ReferenceIdeal.Read.val_main_v3, Cert.ReferenceIdeal.Read.val_main_v4]

/-- The queries. -/
theorem ref_q (p : FVec Ideal S8192x5120 .f32) (i : S8192x2048.Idx) :
    Cert.ReferenceIdeal.Read.val_main_v53 (F := Ideal) p i
      = rot (headAt p (i 0) ((i 1).val / 128 * 128) (by have : (i 1).val < 2048 := (i 1).isLt; omega)) (pos (i 0).val) ⟨(i 1).val % 128, by omega⟩
        * Ideal.ofBits .f32 0x3E0293EE#32 := by
  have h0 : (i 0).val < 8192 := (i 0).isLt
  have h1 : (i 1).val < 2048 := (i 1).isLt
  pointwise [Cert.ReferenceIdeal.Read.val_main_v23, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_v37, Cert.ReferenceIdeal.Read.val_main_v38, Cert.ReferenceIdeal.Read.val_main_v39, Cert.ReferenceIdeal.Read.val_main_v40, Cert.ReferenceIdeal.Read.val_main_v41, Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_v47, Cert.ReferenceIdeal.Read.val_main_v48, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_cst_3, rot]
  refine congrArg (· * _) (dite_congr rfl (fun h => ?_) (fun h => ?_))
  · exact congrArg₂ (· - ·) (congrArg₂ (· * ·) (at_eq p rfl (by first | omega | (dsimp only; omega) | dsimp only)) rfl) (congrArg₂ (· * ·) (at_eq p rfl (by first | omega | (dsimp only; omega) | dsimp only)) rfl)
  · exact congrArg₂ (· + ·) (congrArg₂ (· * ·) (at_eq p rfl (by first | omega | (dsimp only; omega) | dsimp only)) rfl) (congrArg₂ (· * ·) (at_eq p rfl (by first | omega | (dsimp only; omega) | dsimp only)) rfl)

/-- The selection's keys. -/
theorem ref_ks (p : FVec Ideal S8192x5120 .f32) (i : S8192x512.Idx) :
    Cert.ReferenceIdeal.Read.val_main_v100 (F := Ideal) p i
      = rot (headAt p (i 0) (3072 + (i 1).val / 128 * 128) (by have : (i 1).val < 512 := (i 1).isLt; omega)) (pos (i 0).val) ⟨(i 1).val % 128, by omega⟩ := by
  have h0 : (i 0).val < 8192 := (i 0).isLt
  have h1 : (i 1).val < 512 := (i 1).isLt
  pointwise [Cert.ReferenceIdeal.Read.val_main_v26, Cert.ReferenceIdeal.Read.val_main_v79, Cert.ReferenceIdeal.Read.val_main_v80, Cert.ReferenceIdeal.Read.val_main_v81, Cert.ReferenceIdeal.Read.val_main_v82, Cert.ReferenceIdeal.Read.val_main_v83, Cert.ReferenceIdeal.Read.val_main_v84, Cert.ReferenceIdeal.Read.val_main_v85, Cert.ReferenceIdeal.Read.val_main_v86, Cert.ReferenceIdeal.Read.val_main_v87, Cert.ReferenceIdeal.Read.val_main_v88, Cert.ReferenceIdeal.Read.val_main_v89, Cert.ReferenceIdeal.Read.val_main_v90, Cert.ReferenceIdeal.Read.val_main_v91, Cert.ReferenceIdeal.Read.val_main_v92, Cert.ReferenceIdeal.Read.val_main_v93, Cert.ReferenceIdeal.Read.val_main_v94, Cert.ReferenceIdeal.Read.val_main_v95, Cert.ReferenceIdeal.Read.val_main_v96, Cert.ReferenceIdeal.Read.val_main_v97, Cert.ReferenceIdeal.Read.val_main_v98, Cert.ReferenceIdeal.Read.val_main_v99, Cert.ReferenceIdeal.Read.val_main_v100, rot]
  refine dite_congr rfl (fun h => ?_) (fun h => ?_)
  · exact congrArg₂ (· - ·) (congrArg₂ (· * ·) (at_eq p rfl (by first | omega | (dsimp only; omega) | dsimp only)) rfl) (congrArg₂ (· * ·) (at_eq p rfl (by first | omega | (dsimp only; omega) | dsimp only)) rfl)
  · exact congrArg₂ (· + ·) (congrArg₂ (· * ·) (at_eq p rfl (by first | omega | (dsimp only; omega) | dsimp only)) rfl) (congrArg₂ (· * ·) (at_eq p rfl (by first | omega | (dsimp only; omega) | dsimp only)) rfl)

/-- The window's keys. -/
theorem ref_kw (p : FVec Ideal S8192x5120 .f32) (i : S8192x512.Idx) :
    Cert.ReferenceIdeal.Read.val_main_v131 (F := Ideal) p i
      = rot (headAt p (i 0) (4096 + (i 1).val / 128 * 128) (by have : (i 1).val < 512 := (i 1).isLt; omega)) (pos (i 0).val) ⟨(i 1).val % 128, by omega⟩ := by
  have h0 : (i 0).val < 8192 := (i 0).isLt
  have h1 : (i 1).val < 512 := (i 1).isLt
  pointwise [Cert.ReferenceIdeal.Read.val_main_v28, Cert.ReferenceIdeal.Read.val_main_v110, Cert.ReferenceIdeal.Read.val_main_v111, Cert.ReferenceIdeal.Read.val_main_v112, Cert.ReferenceIdeal.Read.val_main_v113, Cert.ReferenceIdeal.Read.val_main_v114, Cert.ReferenceIdeal.Read.val_main_v115, Cert.ReferenceIdeal.Read.val_main_v116, Cert.ReferenceIdeal.Read.val_main_v117, Cert.ReferenceIdeal.Read.val_main_v118, Cert.ReferenceIdeal.Read.val_main_v119, Cert.ReferenceIdeal.Read.val_main_v120, Cert.ReferenceIdeal.Read.val_main_v121, Cert.ReferenceIdeal.Read.val_main_v122, Cert.ReferenceIdeal.Read.val_main_v123, Cert.ReferenceIdeal.Read.val_main_v124, Cert.ReferenceIdeal.Read.val_main_v125, Cert.ReferenceIdeal.Read.val_main_v126, Cert.ReferenceIdeal.Read.val_main_v127, Cert.ReferenceIdeal.Read.val_main_v128, Cert.ReferenceIdeal.Read.val_main_v129, Cert.ReferenceIdeal.Read.val_main_v130, Cert.ReferenceIdeal.Read.val_main_v131, rot]
  refine dite_congr rfl (fun h => ?_) (fun h => ?_)
  · exact congrArg₂ (· - ·) (congrArg₂ (· * ·) (at_eq p rfl (by first | omega | (dsimp only; omega) | dsimp only)) rfl) (congrArg₂ (· * ·) (at_eq p rfl (by first | omega | (dsimp only; omega) | dsimp only)) rfl)
  · exact congrArg₂ (· + ·) (congrArg₂ (· * ·) (at_eq p rfl (by first | omega | (dsimp only; omega) | dsimp only)) rfl) (congrArg₂ (· * ·) (at_eq p rfl (by first | omega | (dsimp only; omega) | dsimp only)) rfl)

/-- The selection's values. -/
theorem ref_vs (p : FVec Ideal S8192x5120 .f32) (i : S8192x1024.Idx) :
    Cert.ReferenceIdeal.Read.val_main_v109 (F := Ideal) p i
      = if (i 1).val % 256 < 128 then p (ix2 (i 0) ⟨3584 + ((i 1).val / 256 * 128 + (i 1).val % 128), by
          have : (i 1).val < 1024 := (i 1).isLt; omega⟩) else if (i 1).val % 128 = 0 then 1 else 0 := by
  have h0 : (i 0).val < 8192 := (i 0).isLt
  have h1 : (i 1).val < 1024 := (i 1).isLt
  pointwise [Cert.ReferenceIdeal.Read.val_main_v27, Cert.ReferenceIdeal.Read.val_main_v101, Cert.ReferenceIdeal.Read.val_main_v102, Cert.ReferenceIdeal.Read.val_main_v103, Cert.ReferenceIdeal.Read.val_main_v104, Cert.ReferenceIdeal.Read.val_main_v105, Cert.ReferenceIdeal.Read.val_main_v106, Cert.ReferenceIdeal.Read.val_main_v107, Cert.ReferenceIdeal.Read.val_main_v108, Cert.ReferenceIdeal.Read.val_main_v109, Cert.ReferenceIdeal.Read.val_main_c]
  by_cases h : (i 1).val % 256 < 128
  · rw [dif_pos h, if_pos h]
    exact at_eq p rfl (by omega)
  · rw [dif_neg h, if_neg h, show (i 1).val % 256 - 128 = (i 1).val % 128 by omega]
    exact one_or_zero ⟨(i 1).val % 128, by omega⟩

/-- The window's values. -/
theorem ref_vw (p : FVec Ideal S8192x5120 .f32) (i : S8192x1024.Idx) :
    Cert.ReferenceIdeal.Read.val_main_v140 (F := Ideal) p i
      = if (i 1).val % 256 < 128 then p (ix2 (i 0) ⟨4608 + ((i 1).val / 256 * 128 + (i 1).val % 128), by
          have : (i 1).val < 1024 := (i 1).isLt; omega⟩) else if (i 1).val % 128 = 0 then 1 else 0 := by
  have h0 : (i 0).val < 8192 := (i 0).isLt
  have h1 : (i 1).val < 1024 := (i 1).isLt
  pointwise [Cert.ReferenceIdeal.Read.val_main_v29, Cert.ReferenceIdeal.Read.val_main_v132, Cert.ReferenceIdeal.Read.val_main_v133, Cert.ReferenceIdeal.Read.val_main_v134, Cert.ReferenceIdeal.Read.val_main_v135, Cert.ReferenceIdeal.Read.val_main_v136, Cert.ReferenceIdeal.Read.val_main_v137, Cert.ReferenceIdeal.Read.val_main_v138, Cert.ReferenceIdeal.Read.val_main_v139, Cert.ReferenceIdeal.Read.val_main_v140, Cert.ReferenceIdeal.Read.val_main_c_4]
  by_cases h : (i 1).val % 256 < 128
  · rw [dif_pos h, if_pos h]
    exact at_eq p rfl (by omega)
  · rw [dif_neg h, if_neg h, show (i 1).val % 256 - 128 = (i 1).val % 128 by omega]
    exact one_or_zero ⟨(i 1).val % 128, by omega⟩

/-- The compression's keys, in groups of 16 positions. -/
theorem ref_kc (p : FVec Ideal S8192x5120 .f32) (i : S4x4x128x2048.Idx) :
    Cert.ReferenceIdeal.Read.val_main_v75 (F := Ideal) p i
      = rot (headAt p (grow i) (2048 + (i 1).val * 128) (by have : (i 1).val < 4 := (i 1).isLt; omega)) (gpos i) ⟨(i 3).val % 128, by omega⟩ := by
  have h0 : (i 0).val < 4 := (i 0).isLt
  have h1 : (i 1).val < 4 := (i 1).isLt
  have h2 : (i 2).val < 128 := (i 2).isLt
  have h3 : (i 3).val < 2048 := (i 3).isLt
  pointwise [Cert.ReferenceIdeal.Read.val_main_v24, Cert.ReferenceIdeal.Read.val_main_v54, Cert.ReferenceIdeal.Read.val_main_v55, Cert.ReferenceIdeal.Read.val_main_v56, Cert.ReferenceIdeal.Read.val_main_v57, Cert.ReferenceIdeal.Read.val_main_v58, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_v64, Cert.ReferenceIdeal.Read.val_main_v65, Cert.ReferenceIdeal.Read.val_main_v66, Cert.ReferenceIdeal.Read.val_main_v67, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_v73, Cert.ReferenceIdeal.Read.val_main_v74, Cert.ReferenceIdeal.Read.val_main_v75, rot]
  refine dite_congr rfl (fun h => ?_) (fun h => ?_)
  · exact congrArg₂ (· - ·) (congrArg₂ (· * ·) (at_eq p rfl (by first | omega | (dsimp only; omega) | dsimp only)) rfl) (congrArg₂ (· * ·) (at_eq p rfl (by first | omega | (dsimp only; omega) | dsimp only)) rfl)
  · exact congrArg₂ (· + ·) (congrArg₂ (· * ·) (at_eq p rfl (by first | omega | (dsimp only; omega) | dsimp only)) rfl) (congrArg₂ (· * ·) (at_eq p rfl (by first | omega | (dsimp only; omega) | dsimp only)) rfl)

/-- The compression's values, in groups of 16 positions. -/
theorem ref_vc (p : FVec Ideal S8192x5120 .f32) (i : S4x4x128x2048.Idx) :
    Cert.ReferenceIdeal.Read.val_main_v78 (F := Ideal) p i
      = p (ix2 (grow i) ⟨2560 + (i 1).val * 128 + (i 3).val % 128, by have : (i 1).val < 4 := (i 1).isLt; omega⟩) := by
  have h0 : (i 0).val < 4 := (i 0).isLt
  have h1 : (i 1).val < 4 := (i 1).isLt
  have h2 : (i 2).val < 128 := (i 2).isLt
  have h3 : (i 3).val < 2048 := (i 3).isLt
  pointwise [Cert.ReferenceIdeal.Read.val_main_v25, Cert.ReferenceIdeal.Read.val_main_v76, Cert.ReferenceIdeal.Read.val_main_v77, Cert.ReferenceIdeal.Read.val_main_v78]
  exact at_eq p rfl (by omega)

end Cert.KernelIdeal.InprojRec
end
-- ==== Proof.RecInputs.lean ====
/-
  THE INPUTS OF THE RECURRENT PROJECTION CALL AS ITS BLOCKS SEE THEM (`KernelIdeal`): the transposed weights in groups of 16 rows, the
  angle tables that the call is given, the columns of the attention's projection; and why a head turned over those tables is the
  reference's.
-/
module

public import proofs.«01_k».proof.Defs
public import proofs.«01_k».proof.Proof.RecBlock
public import proofs.«01_k».proof.Proof.RecRef
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

variable (m : (ℓ : Loc nD τ sig) → Buf (Elt Ideal) ℓ)

/-- The transposed projection, its rows in groups of 16. -/
abbrev Wt (c : Dev nD) : FVec Ideal S2x836x16x4096 .f32 := shapeCast S2x836x16x4096 (transpose S2x13376x4096 [0, 2, 1]
  (m ((c : Thread nD τ).loc main_arg1)) transposes_S2x4096x13376_S2x13376x4096_0_2_1) shapeCasts_S2x13376x4096_S2x836x16x4096

/-- Entry `(1, r, s, k)` of it is column `16·r + s` of the second layer's projection, at row `k`. -/
theorem wt_apply (c : Dev nD) (r : Fin 836) (s : Fin 16) (k : Fin 4096) :
    Wt m c (ix4 1 r s k) = m ((c : Thread nD τ).loc main_arg1) (ix3 1 k ⟨r.val * 16 + s.val, by omega⟩) := by
  unfold Wt
  generalize (m ((c : Thread nD τ).loc main_arg1) : FVec Ideal S2x4096x13376 .f32) = p
  pointwise

/-- The element window's array as the launch finds it. -/
theorem V_main_v22 (c : Dev nD) : V m c main_v22 = Wt m c := by
  dsimp only [V, hostOps0]
  after_results
  rfl

/-- The cosines twice over, and the sines with the first half negated. -/
abbrev cosFull : FVec Ideal S2048x128 .f32 :=
  concatenate S2048x128 1 [⟨S2048x64, cosT⟩, ⟨S2048x64, cosT⟩] concatenates_S2048x64_S2048x64_S2048x128_d1
abbrev sinFull : FVec Ideal S2048x128 .f32 :=
  concatenate S2048x128 1 [⟨S2048x64, Host.negf sinT⟩, ⟨S2048x64, sinT⟩] concatenates_S2048x64_S2048x64_S2048x128_d1

theorem cosFull_apply (j : S2048x128.Idx) : cosFull j = if h : (j 1).val < 64 then cosT (ix2 (j 0) ⟨(j 1).val, h⟩)
    else cosT (ix2 (j 0) ⟨(j 1).val - 64, by have : (j 1).val < 128 := (j 1).isLt; omega⟩) := by
  unfold cosFull
  generalize cosT = p
  pointwise

theorem sinFull_apply (j : S2048x128.Idx) : sinFull j = if h : (j 1).val < 64 then -sinT (ix2 (j 0) ⟨(j 1).val, h⟩)
    else sinT (ix2 (j 0) ⟨(j 1).val - 64, by have : (j 1).val < 128 := (j 1).isLt; omega⟩) := by
  unfold sinFull
  generalize sinT = p
  pointwise

/-- The two tables as the launch finds them. -/
theorem V_main_v18 (c : Dev nD) : V m c main_v18 = cosFull := by
  dsimp only [V, hostOps0]
  after_results
  rfl
theorem V_main_v20 (c : Dev nD) : V m c main_v20 = sinFull := by
  dsimp only [V, hostOps0]
  after_results
  rfl

/-- A head turned over those tables is turned half against half. -/
theorem turn_eq {W : Nat} (x : (⟨2, ![128, W]⟩ : Shape).Idx → EReal) (C S : Vec Ideal S128x128 .f32) (r : Fin 128) (q : Nat) (hq : q < W)
    (hw : 128 ∣ W) (f : Fin 128 → EReal) (t : Fin 2048)
    (hx : ∀ (d : Fin 128) (h : q / 128 * 128 + d.val < W), x (ix2 r ⟨q / 128 * 128 + d.val, h⟩) = f d)
    (hC : ∀ d : Fin 128, C (ix2 r d) = cosFull (ix2 t d)) (hS : ∀ d : Fin 128, S (ix2 r d) = sinFull (ix2 t d)) :
    turn x C S r q hq hw = rot f t ⟨q % 128, Nat.mod_lt _ (by decide)⟩ := by
  have hin : q / 128 * 128 + 128 ≤ W := by obtain ⟨n, rfl⟩ := hw; omega
  have e1 : x (ix2 r ⟨q, hq⟩) = f ⟨q % 128, Nat.mod_lt _ (by decide)⟩ := by
    rw [← hx ⟨q % 128, Nat.mod_lt _ (by decide)⟩ (by dsimp only; omega)]
    exact congrArg x (congrArg (ix2 r) (Fin.ext (by dsimp only; omega)))
  have hu : half q < W := by unfold half; omega
  have e2 : x (ix2 r ⟨half q, hu⟩) = f ⟨(q % 128 + 64) % 128, Nat.mod_lt _ (by decide)⟩ :=
    hx ⟨(q % 128 + 64) % 128, Nat.mod_lt _ (by decide)⟩ hu
  unfold turn rot
  by_cases h : q % 128 < 64
  · have hc : C (ix2 r (lane q)) = cosT (ix2 t ⟨q % 128, h⟩) := (hC _).trans ((cosFull_apply _).trans (dif_pos h))
    have hs : S (ix2 r (lane q)) = -sinT (ix2 t ⟨q % 128, h⟩) := (hS _).trans ((sinFull_apply _).trans (dif_pos h))
    rw [e1, e2, hc, hs, mul_neg, ← sub_eq_add_neg, dif_pos h]
    exact congrArg₂ (· - ·) rfl (congrArg (· * _) (congrArg f (Fin.ext (by dsimp only; omega))))
  · have hc : C (ix2 r (lane q)) = cosT (ix2 t ⟨q % 128 - 64, by omega⟩) := (hC _).trans ((cosFull_apply _).trans (dif_neg h))
    have hs : S (ix2 r (lane q)) = sinT (ix2 t ⟨q % 128 - 64, by omega⟩) := (hS _).trans ((sinFull_apply _).trans (dif_neg h))
    rw [e1, e2, hc, hs, dif_neg h]
    exact congrArg₂ (· + ·) rfl (congrArg (· * _) (congrArg f (Fin.ext (by dsimp only; omega))))

/-! ## The blocks of the grid's points -/

/-- The grid's index maps; the element window's are offsets in rows of 16. -/
theorem idx_in : ∀ t : Fin cfg0.N, (win0_0.index t 0 = t.val / 16 ∧ win0_0.index t 1 = 0)
    ∧ (win0_1.index t 0 = 1 ∧ win0_1.index t 1 = 32 * (t.val % 16) ∧ win0_1.index t 2 = 0 ∧ win0_1.index t 3 = 0)
    ∧ (win0_2.index t 0 = t.val ∧ win0_2.index t 1 = 0)
    ∧ (win0_9.index t 0 = t.val % 16 ∧ win0_9.index t 1 = 0) ∧ win0_10.index t 0 = t.val % 16 ∧ win0_10.index t 1 = 0 :=
  (by decide +kernel : ∀ t : Fin grid0.N, _)
theorem idx_cols : ∀ t : Fin cfg0.N, (win0_3.index t 0 = t.val ∧ win0_3.index t 1 = 4) ∧ (win0_4.index t 0 = t.val ∧ win0_4.index t 1 = 5)
    ∧ (win0_5.index t 0 = t.val ∧ win0_5.index t 1 = 6) ∧ (win0_6.index t 0 = t.val ∧ win0_6.index t 1 = 7)
    ∧ (win0_7.index t 0 = t.val ∧ win0_7.index t 1 = 8) ∧ win0_8.index t 0 = t.val ∧ win0_8.index t 1 = 9 :=
  (by decide +kernel : ∀ t : Fin grid0.N, _)

theorem ltN (t : Fin cfg0.N) : t.val < 64 := by
  have h : cfg0.N = 64 := N_0
  have := t.isLt
  omega

/-- A block of 128 rows of the attention's projection, from column `b`. -/
abbrev rowAt (t : Fin cfg0.N) (r : Fin 128) : Fin 8192 := ⟨t.val * 128 + r.val, by have := ltN t; omega⟩

theorem in2 (c : Dev nD) (t : Fin cfg0.N) (r : Fin 128) (q : Fin 2048) :
    (X0_2 m c t : S128x2048.Idx → EReal) (ix2 r q) = m ((c : Thread nD τ).loc main_arg2) (ix2 (rowAt t r) ⟨q.val, by omega⟩) := by
  obtain ⟨-, -, ⟨h0, h1⟩, -⟩ := idx_in t
  show (cfg0.win 2).fill (cfg0.grid.coords t) dflt0_2 (iblk m c 2 t) (ix2 r q) = _
  unfold Pipeline.Window.fill
  rw [dif_pos (moved0_2 t (ix2 r q))]
  show V m c main_arg2 _ = _
  rw [V_main_arg2]
  refine congrArg (m ((c : Thread nD τ).loc main_arg2)) (funext fun a => Fin.ext ?_)
  match a with
  | ⟨0, _⟩ => show win0_2.index t 0 * 128 + 1 * r.val = t.val * 128 + r.val; rw [h0]; omega
  | ⟨1, _⟩ => show win0_2.index t 1 * 2048 + 1 * q.val = q.val; rw [h1]; omega

theorem in3 (c : Dev nD) (t : Fin cfg0.N) (r : Fin 128) (q : Fin 512) :
    (iblk m c 3 t : S128x512.Idx → EReal) (ix2 r q) = m ((c : Thread nD τ).loc main_arg2) (ix2 (rowAt t r) ⟨2048 + q.val, by omega⟩) := by
  obtain ⟨⟨h0, h1⟩, -⟩ := idx_cols t
  show V m c main_arg2 _ = _
  rw [V_main_arg2]
  refine congrArg (m ((c : Thread nD τ).loc main_arg2)) (funext fun a => Fin.ext ?_)
  match a with
  | ⟨0, _⟩ => show win0_3.index t 0 * 128 + 1 * r.val = t.val * 128 + r.val; rw [h0]; omega
  | ⟨1, _⟩ => show win0_3.index t 1 * 512 + 1 * q.val = 2048 + q.val; rw [h1]; omega

theorem in4 (c : Dev nD) (t : Fin cfg0.N) (r : Fin 128) (q : Fin 512) :
    (iblk m c 4 t : S128x512.Idx → EReal) (ix2 r q) = m ((c : Thread nD τ).loc main_arg2) (ix2 (rowAt t r) ⟨2560 + q.val, by omega⟩) := by
  obtain ⟨-, ⟨h0, h1⟩, -⟩ := idx_cols t
  show V m c main_arg2 _ = _
  rw [V_main_arg2]
  refine congrArg (m ((c : Thread nD τ).loc main_arg2)) (funext fun a => Fin.ext ?_)
  match a with
  | ⟨0, _⟩ => show win0_4.index t 0 * 128 + 1 * r.val = t.val * 128 + r.val; rw [h0]; omega
  | ⟨1, _⟩ => show win0_4.index t 1 * 512 + 1 * q.val = 2560 + q.val; rw [h1]; omega

theorem in5 (c : Dev nD) (t : Fin cfg0.N) (r : Fin 128) (q : Fin 512) :
    (iblk m c 5 t : S128x512.Idx → EReal) (ix2 r q) = m ((c : Thread nD τ).loc main_arg2) (ix2 (rowAt t r) ⟨3072 + q.val, by omega⟩) := by
  obtain ⟨-, -, ⟨h0, h1⟩, -⟩ := idx_cols t
  show V m c main_arg2 _ = _
  rw [V_main_arg2]
  refine congrArg (m ((c : Thread nD τ).loc main_arg2)) (funext fun a => Fin.ext ?_)
  match a with
  | ⟨0, _⟩ => show win0_5.index t 0 * 128 + 1 * r.val = t.val * 128 + r.val; rw [h0]; omega
  | ⟨1, _⟩ => show win0_5.index t 1 * 512 + 1 * q.val = 3072 + q.val; rw [h1]; omega

theorem in6 (c : Dev nD) (t : Fin cfg0.N) (r : Fin 128) (q : Fin 512) :
    (iblk m c 6 t : S128x512.Idx → EReal) (ix2 r q) = m ((c : Thread nD τ).loc main_arg2) (ix2 (rowAt t r) ⟨3584 + q.val, by omega⟩) := by
  obtain ⟨-, -, -, ⟨h0, h1⟩, -⟩ := idx_cols t
  show V m c main_arg2 _ = _
  rw [V_main_arg2]
  refine congrArg (m ((c : Thread nD τ).loc main_arg2)) (funext fun a => Fin.ext ?_)
  match a with
  | ⟨0, _⟩ => show win0_6.index t 0 * 128 + 1 * r.val = t.val * 128 + r.val; rw [h0]; omega
  | ⟨1, _⟩ => show win0_6.index t 1 * 512 + 1 * q.val = 3584 + q.val; rw [h1]; omega

theorem in7 (c : Dev nD) (t : Fin cfg0.N) (r : Fin 128) (q : Fin 512) :
    (iblk m c 7 t : S128x512.Idx → EReal) (ix2 r q) = m ((c : Thread nD τ).loc main_arg2) (ix2 (rowAt t r) ⟨4096 + q.val, by omega⟩) := by
  obtain ⟨-, -, -, -, ⟨h0, h1⟩, -⟩ := idx_cols t
  show V m c main_arg2 _ = _
  rw [V_main_arg2]
  refine congrArg (m ((c : Thread nD τ).loc main_arg2)) (funext fun a => Fin.ext ?_)
  match a with
  | ⟨0, _⟩ => show win0_7.index t 0 * 128 + 1 * r.val = t.val * 128 + r.val; rw [h0]; omega
  | ⟨1, _⟩ => show win0_7.index t 1 * 512 + 1 * q.val = 4096 + q.val; rw [h1]; omega

theorem in8 (c : Dev nD) (t : Fin cfg0.N) (r : Fin 128) (q : Fin 512) :
    (iblk m c 8 t : S128x512.Idx → EReal) (ix2 r q) = m ((c : Thread nD τ).loc main_arg2) (ix2 (rowAt t r) ⟨4608 + q.val, by omega⟩) := by
  obtain ⟨-, -, -, -, -, h0, h1⟩ := idx_cols t
  show V m c main_arg2 _ = _
  rw [V_main_arg2]
  refine congrArg (m ((c : Thread nD τ).loc main_arg2)) (funext fun a => Fin.ext ?_)
  match a with
  | ⟨0, _⟩ => show win0_8.index t 0 * 128 + 1 * r.val = t.val * 128 + r.val; rw [h0]; omega
  | ⟨1, _⟩ => show win0_8.index t 1 * 512 + 1 * q.val = 4608 + q.val; rw [h1]; omega

theorem in9 (c : Dev nD) (t : Fin cfg0.N) (r d : Fin 128) (k : Fin 2048) (hk : k.val = t.val % 16 * 128 + r.val) :
    (iblk m c 9 t : S128x128.Idx → EReal) (ix2 r d) = cosFull (ix2 k d) := by
  obtain ⟨-, -, -, ⟨h0, h1⟩, -⟩ := idx_in t
  show V m c main_v18 _ = _
  rw [V_main_v18]
  refine congrArg cosFull (funext fun a => Fin.ext ?_)
  match a with
  | ⟨0, _⟩ => show win0_9.index t 0 * 128 + 1 * r.val = k.val; rw [h0, hk]; omega
  | ⟨1, _⟩ => show win0_9.index t 1 * 128 + 1 * d.val = d.val; rw [h1]; omega

theorem in10 (c : Dev nD) (t : Fin cfg0.N) (r d : Fin 128) (k : Fin 2048) (hk : k.val = t.val % 16 * 128 + r.val) :
    (iblk m c 10 t : S128x128.Idx → EReal) (ix2 r d) = sinFull (ix2 k d) := by
  obtain ⟨-, -, -, -, h0, h1⟩ := idx_in t
  show V m c main_v20 _ = _
  rw [V_main_v20]
  refine congrArg sinFull (funext fun a => Fin.ext ?_)
  match a with
  | ⟨0, _⟩ => show win0_10.index t 0 * 128 + 1 * r.val = k.val; rw [h0, hk]; omega
  | ⟨1, _⟩ => show win0_10.index t 1 * 128 + 1 * d.val = d.val; rw [h1]; omega

/-- A head of a block of rows, turned over the tables of its positions, is the reference's. -/
theorem turn_ref {W : Nat} (c : Dev nD) (t : Fin cfg0.N) (x : (⟨2, ![128, W]⟩ : Shape).Idx → EReal) (r : Fin 128) (q : Nat) (hq : q < W)
    (hw : 128 ∣ W) (b : Nat) (hb : b + W ≤ 5120)
    (hx : ∀ q : Fin W, x (ix2 r q) = m ((c : Thread nD τ).loc main_arg2) (ix2 (rowAt t r) ⟨b + q.val, by omega⟩))
    (o : Nat) (ho : o + 128 ≤ 5120) (eo : o = b + q / 128 * 128) (d : Fin 128) (ed : d.val = q % 128)
    (R : Fin 8192) (eR : R.val = t.val * 128 + r.val) (k : Fin 2048) (ek : k.val = t.val % 16 * 128 + r.val) :
    turn x (iblk m c 9 t) (iblk m c 10 t) r q hq hw = rot (headAt (m ((c : Thread nD τ).loc main_arg2)) R o ho) k d := by
  obtain rfl : R = rowAt t r := Fin.ext eR
  obtain rfl : d = ⟨q % 128, Nat.mod_lt _ (by decide)⟩ := Fin.ext ed
  subst eo
  refine turn_eq x _ _ r q hq hw _ k (fun d h => ?_) (fun d => in9 m c t r d k ek) (fun d => in10 m c t r d k ek)
  refine (hx _).trans (congrArg (m ((c : Thread nD τ).loc main_arg2)) (congrArg (ix2 (rowAt t r)) (Fin.ext ?_)))
  show b + (q / 128 * 128 + d.val) = b + q / 128 * 128 + d.val
  omega

end Cert.KernelIdeal.InprojRec
end
-- ==== Proof.InprojRec.lean ====
/-
  THE RECURRENT COLUMNS OF THE INPUT PROJECTION, AND WHAT THE ATTENTION NEEDS OF ITS OWN (`KernelIdeal`). The weights come through an
  element-indexed window: 512 rows of the transposed projection, in steps of 512, read as 32 groups of 16 rows. Beside the product
  each point prepares 128 rows of the attention's columns: the queries and keys turned through their angles, the compression's keys
  and values in groups of 16 positions, the values with a column of ones. All eight results are the reference's.
-/
module

public import proofs.«01_k».proof.Defs
public import proofs.«01_k».proof.Proof.RecOuts
public import proofs.«01_k».proof.Proof.RecKeyGroups
public import proofs.«01_k».proof.Proof.RecValueGroups
public import proofs.«01_k».proof.Proof.RecInputs
public import Idealize.ShloMosaic.Lib.Pipeline.Value
public import Idealize.ShloMosaic.Lib.Pointwise
public import Idealize.ShloMosaic.Lib.Tactic
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.KernelIdeal.InprojRec

open Cert.KernelIdeal Cert.KernelIdeal.Gen

variable (m : (ℓ : Loc nD τ sig) → Buf (Elt Ideal) ℓ) (ρ : Dev nD → PrngReg)

/-- The recurrent columns. -/
abbrev G11 (c : Dev nD) : Buf (Elt Ideal) ((c : Thread nD τ).loc main_v23_0) := Cert.ReferenceIdeal.Read.val_main_v4 (F := Ideal) (m ((c : Thread nD τ).loc main_arg0)) (m ((c : Thread nD τ).loc main_arg1))
/-- The queries. -/
abbrev G12 (c : Dev nD) : Buf (Elt Ideal) ((c : Thread nD τ).loc main_v23_1) := Cert.ReferenceIdeal.Read.val_main_v53 (F := Ideal) (m ((c : Thread nD τ).loc main_arg2))
/-- The compression's keys. -/
abbrev G13 (c : Dev nD) : Buf (Elt Ideal) ((c : Thread nD τ).loc main_v23_2) := Cert.ReferenceIdeal.Read.val_main_v75 (F := Ideal) (m ((c : Thread nD τ).loc main_arg2))
/-- The compression's values. -/
abbrev G14 (c : Dev nD) : Buf (Elt Ideal) ((c : Thread nD τ).loc main_v23_3) := Cert.ReferenceIdeal.Read.val_main_v78 (F := Ideal) (m ((c : Thread nD τ).loc main_arg2))
/-- The selection's keys. -/
abbrev G15 (c : Dev nD) : Buf (Elt Ideal) ((c : Thread nD τ).loc main_v23_4) := Cert.ReferenceIdeal.Read.val_main_v100 (F := Ideal) (m ((c : Thread nD τ).loc main_arg2))
/-- The selection's values. -/
abbrev G16 (c : Dev nD) : Buf (Elt Ideal) ((c : Thread nD τ).loc main_v23_5) := Cert.ReferenceIdeal.Read.val_main_v109 (F := Ideal) (m ((c : Thread nD τ).loc main_arg2))
/-- The window's keys. -/
abbrev G17 (c : Dev nD) : Buf (Elt Ideal) ((c : Thread nD τ).loc main_v23_6) := Cert.ReferenceIdeal.Read.val_main_v131 (F := Ideal) (m ((c : Thread nD τ).loc main_arg2))
/-- The window's values. -/
abbrev G18 (c : Dev nD) : Buf (Elt Ideal) ((c : Thread nD τ).loc main_v23_7) := Cert.ReferenceIdeal.Read.val_main_v140 (F := Ideal) (m ((c : Thread nD τ).loc main_arg2))

/-- The results' index maps. -/
theorem idx_out : ∀ t : Fin cfg0.N, (win0_11.index t 0 = t.val / 16 ∧ win0_11.index t 1 = t.val % 16) ∧ (win0_12.index t 0 = t.val ∧ win0_12.index t 1 = 0)
    ∧ (win0_15.index t 0 = t.val ∧ win0_15.index t 1 = 0) ∧ (win0_16.index t 0 = t.val ∧ win0_16.index t 1 = 0)
    ∧ (win0_17.index t 0 = t.val ∧ win0_17.index t 1 = 0) ∧ win0_18.index t 0 = t.val ∧ win0_18.index t 1 = 0 :=
  (by decide +kernel : ∀ t : Fin grid0.N, _)
theorem idx_groups : ∀ t : Fin cfg0.N,
    (win0_13.index t 0 = t.val / 16 ∧ win0_13.index t 1 = 0 ∧ win0_13.index t 2 = t.val % 16 ∧ win0_13.index t 3 = 0)
    ∧ win0_14.index t 0 = t.val / 16 ∧ win0_14.index t 1 = 0 ∧ win0_14.index t 2 = t.val % 16 ∧ win0_14.index t 3 = 0 :=
  (by decide +kernel : ∀ t : Fin grid0.N, _)

/-! ## What each point writes back is its block of the reference's result -/

theorem flushed_eq11 (c : Dev nD) (t : Fin cfg0.N) :
    (dats m 0 c).flushed 11 t = ((cfg0.win 11).blk t).view.read (Elt Ideal) (G11 m c) := by
  rw [Value.flushed11_A, out11]
  funext (j : S2048x512.Idx)
  have hj : (j 1).val < 512 := (j 1).isLt
  obtain ⟨⟨h00, h01⟩, ⟨h10, h11, h12, h13⟩, -⟩ := idx_in t
  obtain ⟨⟨h30, h31⟩, -⟩ := idx_out t
  show k0_pay2 (iblk m c 0 t) (k0_pay1 (k0_pay181 (iblk m c 1 t))) j = G11 m c (((cfg0.win 11).blk t).view.emb j)
  refine (rec_apply _ _ j).trans (Eq.trans ?_ (ref_rec _ _ _).symm)
  refine Finset.sum_congr rfl fun k _ => congrArg₂ (· * ·) ?_ ?_
  · show V m c main_arg0 _ = _
    rw [V_main_arg0]
    refine congrArg (m ((c : Thread nD τ).loc main_arg0)) (funext fun a => Fin.ext ?_)
    match a with
    | ⟨0, _⟩ => show win0_0.index t 0 * 2048 + 1 * (j 0).val = win0_11.index t 0 * 2048 + 1 * (j 0).val; rw [h00, h30]
    | ⟨1, _⟩ => show win0_0.index t 1 * 4096 + 1 * k.val = k.val; rw [h01]; omega
  · have hr : 32 * (t.val % 16) + (j 1).val / 16 < 836 := by omega
    refine Eq.trans (b := Wt m c (ix4 1 ⟨32 * (t.val % 16) + (j 1).val / 16, hr⟩ ⟨(j 1).val % 16, by omega⟩ k)) ?_ ?_
    · show V m c main_v22 _ = _
      rw [V_main_v22]
      refine congrArg (Wt m c) (funext fun a => Fin.ext ?_)
      match a with
      | ⟨0, _⟩ => show win0_1.index t 0 + 1 * 0 = 1; rw [h10]
      | ⟨1, _⟩ => show win0_1.index t 1 + 1 * ((j 1).val / 16) = 32 * (t.val % 16) + (j 1).val / 16; rw [h11]; omega
      | ⟨2, _⟩ => show win0_1.index t 2 + 1 * ((j 1).val % 16) = (j 1).val % 16; rw [h12]; omega
      | ⟨3, _⟩ => show win0_1.index t 3 + 1 * k.val = k.val; rw [h13]; omega
    · refine (wt_apply m c _ _ k).trans (congrArg (m ((c : Thread nD τ).loc main_arg1)) (funext fun a => Fin.ext ?_))
      match a with
      | ⟨0, _⟩ => show (1 : Nat) = 1; rfl
      | ⟨1, _⟩ => show k.val = k.val; rfl
      | ⟨2, _⟩ =>
        show (32 * (t.val % 16) + (j 1).val / 16) * 16 + (j 1).val % 16 = win0_11.index t 1 * 512 + 1 * (j 1).val
        rw [h31]; omega

theorem flushed_eq12 (c : Dev nD) (t : Fin cfg0.N) :
    (dats m 0 c).flushed 12 t = ((cfg0.win 12).blk t).view.read (Elt Ideal) (G12 m c) := by
  rw [Value.flushed12_A, out12]
  funext (j : S128x2048.Idx)
  have hj0 : (j 0).val < 128 := (j 0).isLt
  have hj : (j 1).val < 2048 := (j 1).isLt
  have ht := ltN t
  obtain ⟨-, ⟨h0, h1⟩, -⟩ := idx_out t
  show E12 (X0_2 m c t) (iblk m c 9 t) (iblk m c 10 t) j = G12 m c (((cfg0.win 12).blk t).view.emb j)
  have e0 : ((((cfg0.win 12).blk t).view.emb j) 0).val = t.val * 128 + (j 0).val := by
    show win0_12.index t 0 * 128 + 1 * (j 0).val = _; rw [h0]; omega
  have e1 : ((((cfg0.win 12).blk t).view.emb j) 1).val = (j 1).val := by
    show win0_12.index t 1 * 2048 + 1 * (j 1).val = _; rw [h1]; omega
  refine Eq.trans (congrArg (· * _) ?_) (ref_q _ _).symm
  refine turn_ref m c t _ (j 0) (j 1).val hj (by decide) 0 (by decide) (fun q => ?_) _ _ ?_ _ ?_ _ e0 _ ?_
  · exact (in2 m c t (j 0) q).trans (congrArg (m ((c : Thread nD τ).loc main_arg2)) (congrArg (ix2 _) (Fin.ext (by dsimp only; omega))))
  · rw [e1]; omega
  · dsimp only; rw [e1]
  · dsimp only; rw [e0]; omega

theorem flushed_eq15 (c : Dev nD) (t : Fin cfg0.N) :
    (dats m 0 c).flushed 15 t = ((cfg0.win 15).blk t).view.read (Elt Ideal) (G15 m c) := by
  rw [Value.flushed15_A, out15]
  funext (j : S128x512.Idx)
  have hj0 : (j 0).val < 128 := (j 0).isLt
  have hj : (j 1).val < 512 := (j 1).isLt
  have ht := ltN t
  obtain ⟨-, -, ⟨h0, h1⟩, -⟩ := idx_out t
  show E15 (iblk m c 5 t) (iblk m c 9 t) (iblk m c 10 t) j = G15 m c (((cfg0.win 15).blk t).view.emb j)
  have e0 : ((((cfg0.win 15).blk t).view.emb j) 0).val = t.val * 128 + (j 0).val := by
    show win0_15.index t 0 * 128 + 1 * (j 0).val = _; rw [h0]; omega
  have e1 : ((((cfg0.win 15).blk t).view.emb j) 1).val = (j 1).val := by
    show win0_15.index t 1 * 512 + 1 * (j 1).val = _; rw [h1]; omega
  refine Eq.trans ?_ (ref_ks _ _).symm
  refine turn_ref m c t _ (j 0) (j 1).val hj (by decide) 3072 (by decide) (fun q => in5 m c t (j 0) q) _ _ ?_ _ ?_ _ e0 _ ?_
  · rw [e1]
  · dsimp only; rw [e1]
  · dsimp only; rw [e0]; omega

theorem flushed_eq17 (c : Dev nD) (t : Fin cfg0.N) :
    (dats m 0 c).flushed 17 t = ((cfg0.win 17).blk t).view.read (Elt Ideal) (G17 m c) := by
  rw [Value.flushed17_A, out17]
  funext (j : S128x512.Idx)
  have hj0 : (j 0).val < 128 := (j 0).isLt
  have hj : (j 1).val < 512 := (j 1).isLt
  have ht := ltN t
  obtain ⟨-, -, -, -, ⟨h0, h1⟩, -⟩ := idx_out t
  show E15 (iblk m c 7 t) (iblk m c 9 t) (iblk m c 10 t) j = G17 m c (((cfg0.win 17).blk t).view.emb j)
  have e0 : ((((cfg0.win 17).blk t).view.emb j) 0).val = t.val * 128 + (j 0).val := by
    show win0_17.index t 0 * 128 + 1 * (j 0).val = _; rw [h0]; omega
  have e1 : ((((cfg0.win 17).blk t).view.emb j) 1).val = (j 1).val := by
    show win0_17.index t 1 * 512 + 1 * (j 1).val = _; rw [h1]; omega
  refine Eq.trans ?_ (ref_kw _ _).symm
  refine turn_ref m c t _ (j 0) (j 1).val hj (by decide) 4096 (by decide) (fun q => in7 m c t (j 0) q) _ _ ?_ _ ?_ _ e0 _ ?_
  · rw [e1]
  · dsimp only; rw [e1]
  · dsimp only; rw [e0]; omega

theorem flushed_eq16 (c : Dev nD) (t : Fin cfg0.N) :
    (dats m 0 c).flushed 16 t = ((cfg0.win 16).blk t).view.read (Elt Ideal) (G16 m c) := by
  rw [Value.flushed16_A, out16]
  funext (j : S128x1024.Idx)
  have hj : (j 1).val < 1024 := (j 1).isLt
  obtain ⟨-, -, -, ⟨h0, h1⟩, -⟩ := idx_out t
  show E16 (iblk m c 6 t) j = G16 m c (((cfg0.win 16).blk t).view.emb j)
  have e0 : ((((cfg0.win 16).blk t).view.emb j) 0).val = t.val * 128 + (j 0).val := by
    show win0_16.index t 0 * 128 + 1 * (j 0).val = _; rw [h0]; omega
  have e1 : ((((cfg0.win 16).blk t).view.emb j) 1).val = (j 1).val := by
    show win0_16.index t 1 * 1024 + 1 * (j 1).val = _; rw [h1]; omega
  refine Eq.trans ?_ (ref_vs _ _).symm
  refine if_congr (by rw [e1]) ((in6 m c t (j 0) _).trans (congrArg (m ((c : Thread nD τ).loc main_arg2)) ?_)) (if_congr (by rw [e1]) rfl rfl)
  refine congrArg₂ (ix2 (n0 := 8192) (n1 := 5120)) (Fin.ext e0.symm) (Fin.ext ?_)
  dsimp only
  rw [e1]

theorem flushed_eq18 (c : Dev nD) (t : Fin cfg0.N) :
    (dats m 0 c).flushed 18 t = ((cfg0.win 18).blk t).view.read (Elt Ideal) (G18 m c) := by
  rw [Value.flushed18_A, out18]
  funext (j : S128x1024.Idx)
  have hj : (j 1).val < 1024 := (j 1).isLt
  obtain ⟨-, -, -, -, -, h0, h1⟩ := idx_out t
  show E16 (iblk m c 8 t) j = G18 m c (((cfg0.win 18).blk t).view.emb j)
  have e0 : ((((cfg0.win 18).blk t).view.emb j) 0).val = t.val * 128 + (j 0).val := by
    show win0_18.index t 0 * 128 + 1 * (j 0).val = _; rw [h0]; omega
  have e1 : ((((cfg0.win 18).blk t).view.emb j) 1).val = (j 1).val := by
    show win0_18.index t 1 * 1024 + 1 * (j 1).val = _; rw [h1]; omega
  refine Eq.trans ?_ (ref_vw _ _).symm
  refine if_congr (by rw [e1]) ((in8 m c t (j 0) _).trans (congrArg (m ((c : Thread nD τ).loc main_arg2)) ?_)) (if_congr (by rw [e1]) rfl rfl)
  refine congrArg₂ (ix2 (n0 := 8192) (n1 := 5120)) (Fin.ext e0.symm) (Fin.ext ?_)
  dsimp only
  rw [e1]

theorem flushed_eq13 (c : Dev nD) (t : Fin cfg0.N) :
    (dats m 0 c).flushed 13 t = ((cfg0.win 13).blk t).view.read (Elt Ideal) (G13 m c) := by
  rw [Value.flushed13_A, out13]
  funext (j : S1x4x8x2048.Idx)
  have hj0 : (j 0).val < 1 := (j 0).isLt
  have hj1 : (j 1).val < 4 := (j 1).isLt
  have hj2 : (j 2).val < 8 := (j 2).isLt
  have hj3 : (j 3).val < 2048 := (j 3).isLt
  have ht := ltN t
  obtain ⟨⟨h0, h1, h2, h3⟩, -⟩ := idx_groups t
  have e0 : ((((cfg0.win 13).blk t).view.emb j) 0).val = t.val / 16 := by
    show win0_13.index t 0 * 1 + 1 * (j 0).val = _; rw [h0]; omega
  have e1 : ((((cfg0.win 13).blk t).view.emb j) 1).val = (j 1).val := by
    show win0_13.index t 1 * 4 + 1 * (j 1).val = _; rw [h1]; omega
  have e2 : ((((cfg0.win 13).blk t).view.emb j) 2).val = t.val % 16 * 8 + (j 2).val := by
    show win0_13.index t 2 * 8 + 1 * (j 2).val = _; rw [h2]; omega
  have e3 : ((((cfg0.win 13).blk t).view.emb j) 3).val = (j 3).val := by
    show win0_13.index t 3 * 2048 + 1 * (j 3).val = _; rw [h3]; omega
  show groups _ j = G13 m c (((cfg0.win 13).blk t).view.emb j)
  refine Eq.trans ?_ (ref_kc _ _).symm
  refine turn_ref m c t _ _ ((j 1).val * 128 + (j 3).val % 128) (by omega) (by decide) 2048 (by decide) (fun q => in3 m c t _ q) _ _ ?_ _ ?_ _ ?_ _ ?_
  · rw [e1]; omega
  · dsimp only; rw [e3]; omega
  · dsimp only; rw [e0, e2, e3]; omega
  · dsimp only; rw [e2, e3]; omega

theorem flushed_eq14 (c : Dev nD) (t : Fin cfg0.N) :
    (dats m 0 c).flushed 14 t = ((cfg0.win 14).blk t).view.read (Elt Ideal) (G14 m c) := by
  rw [Value.flushed14_A, out14]
  funext (j : S1x4x8x2048.Idx)
  have hj0 : (j 0).val < 1 := (j 0).isLt
  have hj1 : (j 1).val < 4 := (j 1).isLt
  have hj2 : (j 2).val < 8 := (j 2).isLt
  have hj3 : (j 3).val < 2048 := (j 3).isLt
  have ht := ltN t
  obtain ⟨-, h0, h1, h2, h3⟩ := idx_groups t
  have e0 : ((((cfg0.win 14).blk t).view.emb j) 0).val = t.val / 16 := by
    show win0_14.index t 0 * 1 + 1 * (j 0).val = _; rw [h0]; omega
  have e1 : ((((cfg0.win 14).blk t).view.emb j) 1).val = (j 1).val := by
    show win0_14.index t 1 * 4 + 1 * (j 1).val = _; rw [h1]; omega
  have e2 : ((((cfg0.win 14).blk t).view.emb j) 2).val = t.val % 16 * 8 + (j 2).val := by
    show win0_14.index t 2 * 8 + 1 * (j 2).val = _; rw [h2]; omega
  have e3 : ((((cfg0.win 14).blk t).view.emb j) 3).val = (j 3).val := by
    show win0_14.index t 3 * 2048 + 1 * (j 3).val = _; rw [h3]; omega
  show groups _ j = G14 m c (((cfg0.win 14).blk t).view.emb j)
  refine Eq.trans ?_ (ref_vc _ _).symm
  refine (in4 m c t _ _).trans (congrArg (m ((c : Thread nD τ).loc main_arg2)) ?_)
  refine congrArg₂ (ix2 (n0 := 8192) (n1 := 5120)) (Fin.ext ?_) (Fin.ext ?_)
  · dsimp only; rw [e0, e2, e3]; omega
  · dsimp only; rw [e1, e3]; omega

/-! ## The blocks tile each result -/

theorem cover11 (i : S8192x8192.Idx) : ∃ t : Fin cfg0.N, (cfg0.win 11).flush t = true ∧ i ∈ ((cfg0.win 11).blk t).view.set := by
  have hi0 : (i 0 : Nat) < 8192 := (i 0).isLt
  have hi1 : (i 1 : Nat) < 8192 := (i 1).isLt
  have hN : cfg0.N = 64 := N_0
  have ht : (i 0 : Nat) / 2048 * 16 + (i 1 : Nat) / 512 < cfg0.N := by omega
  refine ⟨⟨_, ht⟩, flush0_11 _, ?_⟩
  obtain ⟨⟨h0, h1⟩, -⟩ := idx_out ⟨_, ht⟩
  show i ∈ ((View.whole main_v23_0).slice (win0_11.rect ⟨_, ht⟩)).set
  rw [View.set_slice_whole, Rect.mem_set_unit]
  intro a
  match a with
  | ⟨0, _⟩ =>
    show win0_11.index ⟨_, ht⟩ 0 * 2048 ≤ (i 0 : Nat) ∧ (i 0 : Nat) < win0_11.index ⟨_, ht⟩ 0 * 2048 + 2048
    rw [h0]; dsimp only; omega
  | ⟨1, _⟩ =>
    show win0_11.index ⟨_, ht⟩ 1 * 512 ≤ (i 1 : Nat) ∧ (i 1 : Nat) < win0_11.index ⟨_, ht⟩ 1 * 512 + 512
    rw [h1]; try dsimp only
    omega

theorem cover12 (i : S8192x2048.Idx) : ∃ t : Fin cfg0.N, (cfg0.win 12).flush t = true ∧ i ∈ ((cfg0.win 12).blk t).view.set := by
  have hi0 : (i 0 : Nat) < 8192 := (i 0).isLt
  have hi1 : (i 1 : Nat) < 2048 := (i 1).isLt
  have hN : cfg0.N = 64 := N_0
  have ht : (i 0 : Nat) / 128 < cfg0.N := by omega
  refine ⟨⟨_, ht⟩, flush0_12 _, ?_⟩
  obtain ⟨-, ⟨h0, h1⟩, -⟩ := idx_out ⟨_, ht⟩
  show i ∈ ((View.whole main_v23_1).slice (win0_12.rect ⟨_, ht⟩)).set
  rw [View.set_slice_whole, Rect.mem_set_unit]
  intro a
  match a with
  | ⟨0, _⟩ =>
    show win0_12.index ⟨_, ht⟩ 0 * 128 ≤ (i 0 : Nat) ∧ (i 0 : Nat) < win0_12.index ⟨_, ht⟩ 0 * 128 + 128
    rw [h0]; dsimp only; omega
  | ⟨1, _⟩ =>
    show win0_12.index ⟨_, ht⟩ 1 * 2048 ≤ (i 1 : Nat) ∧ (i 1 : Nat) < win0_12.index ⟨_, ht⟩ 1 * 2048 + 2048
    rw [h1]; try dsimp only
    omega

theorem cover15 (i : S8192x512.Idx) : ∃ t : Fin cfg0.N, (cfg0.win 15).flush t = true ∧ i ∈ ((cfg0.win 15).blk t).view.set := by
  have hi0 : (i 0 : Nat) < 8192 := (i 0).isLt
  have hi1 : (i 1 : Nat) < 512 := (i 1).isLt
  have hN : cfg0.N = 64 := N_0
  have ht : (i 0 : Nat) / 128 < cfg0.N := by omega
  refine ⟨⟨_, ht⟩, flush0_15 _, ?_⟩
  obtain ⟨-, -, ⟨h0, h1⟩, -⟩ := idx_out ⟨_, ht⟩
  show i ∈ ((View.whole main_v23_4).slice (win0_15.rect ⟨_, ht⟩)).set
  rw [View.set_slice_whole, Rect.mem_set_unit]
  intro a
  match a with
  | ⟨0, _⟩ =>
    show win0_15.index ⟨_, ht⟩ 0 * 128 ≤ (i 0 : Nat) ∧ (i 0 : Nat) < win0_15.index ⟨_, ht⟩ 0 * 128 + 128
    rw [h0]; dsimp only; omega
  | ⟨1, _⟩ =>
    show win0_15.index ⟨_, ht⟩ 1 * 512 ≤ (i 1 : Nat) ∧ (i 1 : Nat) < win0_15.index ⟨_, ht⟩ 1 * 512 + 512
    rw [h1]; try dsimp only
    omega

theorem cover16 (i : S8192x1024.Idx) : ∃ t : Fin cfg0.N, (cfg0.win 16).flush t = true ∧ i ∈ ((cfg0.win 16).blk t).view.set := by
  have hi0 : (i 0 : Nat) < 8192 := (i 0).isLt
  have hi1 : (i 1 : Nat) < 1024 := (i 1).isLt
  have hN : cfg0.N = 64 := N_0
  have ht : (i 0 : Nat) / 128 < cfg0.N := by omega
  refine ⟨⟨_, ht⟩, flush0_16 _, ?_⟩
  obtain ⟨-, -, -, ⟨h0, h1⟩, -⟩ := idx_out ⟨_, ht⟩
  show i ∈ ((View.whole main_v23_5).slice (win0_16.rect ⟨_, ht⟩)).set
  rw [View.set_slice_whole, Rect.mem_set_unit]
  intro a
  match a with
  | ⟨0, _⟩ =>
    show win0_16.index ⟨_, ht⟩ 0 * 128 ≤ (i 0 : Nat) ∧ (i 0 : Nat) < win0_16.index ⟨_, ht⟩ 0 * 128 + 128
    rw [h0]; dsimp only; omega
  | ⟨1, _⟩ =>
    show win0_16.index ⟨_, ht⟩ 1 * 1024 ≤ (i 1 : Nat) ∧ (i 1 : Nat) < win0_16.index ⟨_, ht⟩ 1 * 1024 + 1024
    rw [h1]; try dsimp only
    omega

theorem cover17 (i : S8192x512.Idx) : ∃ t : Fin cfg0.N, (cfg0.win 17).flush t = true ∧ i ∈ ((cfg0.win 17).blk t).view.set := by
  have hi0 : (i 0 : Nat) < 8192 := (i 0).isLt
  have hi1 : (i 1 : Nat) < 512 := (i 1).isLt
  have hN : cfg0.N = 64 := N_0
  have ht : (i 0 : Nat) / 128 < cfg0.N := by omega
  refine ⟨⟨_, ht⟩, flush0_17 _, ?_⟩
  obtain ⟨-, -, -, -, ⟨h0, h1⟩, -⟩ := idx_out ⟨_, ht⟩
  show i ∈ ((View.whole main_v23_6).slice (win0_17.rect ⟨_, ht⟩)).set
  rw [View.set_slice_whole, Rect.mem_set_unit]
  intro a
  match a with
  | ⟨0, _⟩ =>
    show win0_17.index ⟨_, ht⟩ 0 * 128 ≤ (i 0 : Nat) ∧ (i 0 : Nat) < win0_17.index ⟨_, ht⟩ 0 * 128 + 128
    rw [h0]; dsimp only; omega
  | ⟨1, _⟩ =>
    show win0_17.index ⟨_, ht⟩ 1 * 512 ≤ (i 1 : Nat) ∧ (i 1 : Nat) < win0_17.index ⟨_, ht⟩ 1 * 512 + 512
    rw [h1]; try dsimp only
    omega

theorem cover18 (i : S8192x1024.Idx) : ∃ t : Fin cfg0.N, (cfg0.win 18).flush t = true ∧ i ∈ ((cfg0.win 18).blk t).view.set := by
  have hi0 : (i 0 : Nat) < 8192 := (i 0).isLt
  have hi1 : (i 1 : Nat) < 1024 := (i 1).isLt
  have hN : cfg0.N = 64 := N_0
  have ht : (i 0 : Nat) / 128 < cfg0.N := by omega
  refine ⟨⟨_, ht⟩, flush0_18 _, ?_⟩
  obtain ⟨-, -, -, -, -, h0, h1⟩ := idx_out ⟨_, ht⟩
  show i ∈ ((View.whole main_v23_7).slice (win0_18.rect ⟨_, ht⟩)).set
  rw [View.set_slice_whole, Rect.mem_set_unit]
  intro a
  match a with
  | ⟨0, _⟩ =>
    show win0_18.index ⟨_, ht⟩ 0 * 128 ≤ (i 0 : Nat) ∧ (i 0 : Nat) < win0_18.index ⟨_, ht⟩ 0 * 128 + 128
    rw [h0]; dsimp only; omega
  | ⟨1, _⟩ =>
    show win0_18.index ⟨_, ht⟩ 1 * 1024 ≤ (i 1 : Nat) ∧ (i 1 : Nat) < win0_18.index ⟨_, ht⟩ 1 * 1024 + 1024
    rw [h1]; try dsimp only
    omega

theorem cover13 (i : S4x4x128x2048.Idx) : ∃ t : Fin cfg0.N, (cfg0.win 13).flush t = true ∧ i ∈ ((cfg0.win 13).blk t).view.set := by
  have hi0 : (i 0 : Nat) < 4 := (i 0).isLt
  have hi1 : (i 1 : Nat) < 4 := (i 1).isLt
  have hi2 : (i 2 : Nat) < 128 := (i 2).isLt
  have hi3 : (i 3 : Nat) < 2048 := (i 3).isLt
  have hN : cfg0.N = 64 := N_0
  have ht : (i 0 : Nat) * 16 + (i 2 : Nat) / 8 < cfg0.N := by omega
  refine ⟨⟨_, ht⟩, flush0_13 _, ?_⟩
  obtain ⟨⟨h0, h1, h2, h3⟩, -⟩ := idx_groups ⟨_, ht⟩
  show i ∈ ((View.whole main_v23_2).slice (win0_13.rect ⟨_, ht⟩)).set
  rw [View.set_slice_whole, Rect.mem_set_unit]
  intro a
  match a with
  | ⟨0, _⟩ =>
    show win0_13.index ⟨_, ht⟩ 0 * 1 ≤ (i 0 : Nat) ∧ (i 0 : Nat) < win0_13.index ⟨_, ht⟩ 0 * 1 + 1
    rw [h0]; try dsimp only
    omega
  | ⟨1, _⟩ =>
    show win0_13.index ⟨_, ht⟩ 1 * 4 ≤ (i 1 : Nat) ∧ (i 1 : Nat) < win0_13.index ⟨_, ht⟩ 1 * 4 + 4
    rw [h1]; try dsimp only
    omega
  | ⟨2, _⟩ =>
    show win0_13.index ⟨_, ht⟩ 2 * 8 ≤ (i 2 : Nat) ∧ (i 2 : Nat) < win0_13.index ⟨_, ht⟩ 2 * 8 + 8
    rw [h2]; try dsimp only
    omega
  | ⟨3, _⟩ =>
    show win0_13.index ⟨_, ht⟩ 3 * 2048 ≤ (i 3 : Nat) ∧ (i 3 : Nat) < win0_13.index ⟨_, ht⟩ 3 * 2048 + 2048
    rw [h3]; try dsimp only
    omega

theorem cover14 (i : S4x4x128x2048.Idx) : ∃ t : Fin cfg0.N, (cfg0.win 14).flush t = true ∧ i ∈ ((cfg0.win 14).blk t).view.set := by
  have hi0 : (i 0 : Nat) < 4 := (i 0).isLt
  have hi1 : (i 1 : Nat) < 4 := (i 1).isLt
  have hi2 : (i 2 : Nat) < 128 := (i 2).isLt
  have hi3 : (i 3 : Nat) < 2048 := (i 3).isLt
  have hN : cfg0.N = 64 := N_0
  have ht : (i 0 : Nat) * 16 + (i 2 : Nat) / 8 < cfg0.N := by omega
  refine ⟨⟨_, ht⟩, flush0_14 _, ?_⟩
  obtain ⟨-, h0, h1, h2, h3⟩ := idx_groups ⟨_, ht⟩
  show i ∈ ((View.whole main_v23_3).slice (win0_14.rect ⟨_, ht⟩)).set
  rw [View.set_slice_whole, Rect.mem_set_unit]
  intro a
  match a with
  | ⟨0, _⟩ =>
    show win0_14.index ⟨_, ht⟩ 0 * 1 ≤ (i 0 : Nat) ∧ (i 0 : Nat) < win0_14.index ⟨_, ht⟩ 0 * 1 + 1
    rw [h0]; try dsimp only
    omega
  | ⟨1, _⟩ =>
    show win0_14.index ⟨_, ht⟩ 1 * 4 ≤ (i 1 : Nat) ∧ (i 1 : Nat) < win0_14.index ⟨_, ht⟩ 1 * 4 + 4
    rw [h1]; try dsimp only
    omega
  | ⟨2, _⟩ =>
    show win0_14.index ⟨_, ht⟩ 2 * 8 ≤ (i 2 : Nat) ∧ (i 2 : Nat) < win0_14.index ⟨_, ht⟩ 2 * 8 + 8
    rw [h2]; try dsimp only
    omega
  | ⟨3, _⟩ =>
    show win0_14.index ⟨_, ht⟩ 3 * 2048 ≤ (i 3 : Nat) ∧ (i 3 : Nat) < win0_14.index ⟨_, ht⟩ 3 * 2048 + 2048
    rw [h3]; try dsimp only
    omega

/-- The result arrays after the run. -/
theorem final11 (c : Dev nD) : (dats m 0 c).arrAt 11 cfg0.N = G11 m c :=
  (dats m 0 c).arrAt_eq_of_cover 11 (G11 m c) (fun t _ => flushed_eq11 m c t) cover11
theorem final12 (c : Dev nD) : (dats m 0 c).arrAt 12 cfg0.N = G12 m c :=
  (dats m 0 c).arrAt_eq_of_cover 12 (G12 m c) (fun t _ => flushed_eq12 m c t) cover12
theorem final13 (c : Dev nD) : (dats m 0 c).arrAt 13 cfg0.N = G13 m c :=
  (dats m 0 c).arrAt_eq_of_cover 13 (G13 m c) (fun t _ => flushed_eq13 m c t) cover13
theorem final14 (c : Dev nD) : (dats m 0 c).arrAt 14 cfg0.N = G14 m c :=
  (dats m 0 c).arrAt_eq_of_cover 14 (G14 m c) (fun t _ => flushed_eq14 m c t) cover14
theorem final15 (c : Dev nD) : (dats m 0 c).arrAt 15 cfg0.N = G15 m c :=
  (dats m 0 c).arrAt_eq_of_cover 15 (G15 m c) (fun t _ => flushed_eq15 m c t) cover15
theorem final16 (c : Dev nD) : (dats m 0 c).arrAt 16 cfg0.N = G16 m c :=
  (dats m 0 c).arrAt_eq_of_cover 16 (G16 m c) (fun t _ => flushed_eq16 m c t) cover16
theorem final17 (c : Dev nD) : (dats m 0 c).arrAt 17 cfg0.N = G17 m c :=
  (dats m 0 c).arrAt_eq_of_cover 17 (G17 m c) (fun t _ => flushed_eq17 m c t) cover17
theorem final18 (c : Dev nD) : (dats m 0 c).arrAt 18 cfg0.N = G18 m c :=
  (dats m 0 c).arrAt_eq_of_cover 18 (G18 m c) (fun t _ => flushed_eq18 m c t) cover18

end Cert.KernelIdeal.InprojRec

namespace Cert.Proof

/-- The kernel's eight results are the reference's. -/
theorem algebraic1 : Cert.algebraic_KernelIdeal_ReferenceIdeal := by
  intro m g m' g' _ h
  refine ⟨fun c => Cert.KernelIdeal.InprojRec.G11 m c, fun c => Cert.KernelIdeal.InprojRec.G12 m c, fun c => Cert.KernelIdeal.InprojRec.G13 m c, fun c => Cert.KernelIdeal.InprojRec.G14 m c, fun c => Cert.KernelIdeal.InprojRec.G15 m c, fun c => Cert.KernelIdeal.InprojRec.G16 m c, fun c => Cert.KernelIdeal.InprojRec.G17 m c, fun c => Cert.KernelIdeal.InprojRec.G18 m c, ?_, ?_⟩
  · exact (θ_run Cert.KernelIdeal.defs _ _).mono (fun r hr c => ⟨(hr c).1.trans (Cert.KernelIdeal.InprojRec.final11 m c),
      (hr c).2.1.trans (Cert.KernelIdeal.InprojRec.final12 m c),
      (hr c).2.2.1.trans (Cert.KernelIdeal.InprojRec.final13 m c),
      (hr c).2.2.2.1.trans (Cert.KernelIdeal.InprojRec.final14 m c),
      (hr c).2.2.2.2.1.trans (Cert.KernelIdeal.InprojRec.final15 m c),
      (hr c).2.2.2.2.2.1.trans (Cert.KernelIdeal.InprojRec.final16 m c),
      (hr c).2.2.2.2.2.2.1.trans (Cert.KernelIdeal.InprojRec.final17 m c),
      (hr c).2.2.2.2.2.2.2.1.trans (Cert.KernelIdeal.InprojRec.final18 m c),
      (hr c).2.2.2.2.2.2.2.2⟩) (Cert.KernelIdeal.Value.run_blocks (F := Ideal) m g)
  · refine (θ_run Cert.ReferenceIdeal.defs _ _).mono (fun r hr c => ⟨(hr c).1.trans ?_, (hr c).2.1.trans ?_, (hr c).2.2.1.trans ?_, (hr c).2.2.2.1.trans ?_, (hr c).2.2.2.2.1.trans ?_, (hr c).2.2.2.2.2.1.trans ?_, (hr c).2.2.2.2.2.2.1.trans ?_, (hr c).2.2.2.2.2.2.2.1.trans ?_, (hr c).2.2.2.2.2.2.2.2⟩)
      (Cert.ReferenceIdeal.Value.run (F := Ideal) m' g')
    · obtain ⟨e0, e1, -⟩ := h c
      rw [e0, e1]
      exact Cert.ReferenceIdeal.Read.val_main_v4_eq _ _
    · obtain ⟨-, -, e2⟩ := h c
      rw [Cert.ReferenceIdeal.Read.val_main_v53_eq, e2]
    · obtain ⟨-, -, e2⟩ := h c
      rw [Cert.ReferenceIdeal.Read.val_main_v75_eq, e2]
    · obtain ⟨-, -, e2⟩ := h c
      rw [e2]
      exact Cert.ReferenceIdeal.Read.val_main_v78_eq _
    · obtain ⟨-, -, e2⟩ := h c
      rw [Cert.ReferenceIdeal.Read.val_main_v100_eq, e2]
    · obtain ⟨-, -, e2⟩ := h c
      rw [e2]
      exact Cert.ReferenceIdeal.Read.val_main_v109_eq _
    · obtain ⟨-, -, e2⟩ := h c
      rw [Cert.ReferenceIdeal.Read.val_main_v131_eq, e2]
    · obtain ⟨-, -, e2⟩ := h c
      rw [e2]
      exact Cert.ReferenceIdeal.Read.val_main_v140_eq _

end Cert.Proof

end
-- ==== Proof.InprojNsa.lean ====
/-
  THE ATTENTION'S COLUMNS OF THE INPUT PROJECTION (`Kernel2Ideal`). The weights come through an element-indexed window: 512 rows of
  the transposed projection, from row 8208 in steps of 512, read as 32 groups of 16 rows. A point multiplies 2048 rows of `h` by
  them, and rounds one slab of the output projection's weights on the side (the last eight points round the last slab again).
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.Value
public import Idealize.ShloMosaic.Lib.Pointwise
public import Idealize.ShloMosaic.Lib.Tactic
public import Idealize.ShloMosaic.Lib.Quiescent

@[expose] public section

noncomputable section

open Idealize.ShloMosaic Idealize.ShloMosaic.TcCoe Idealize.SL.Sem
open Idealize.ShloMosaic.Pipeline (Dat)

namespace Cert.Kernel2Ideal.InprojNsa

open Cert.Kernel2Ideal Cert.Kernel2Ideal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The body's product at an index, over the weights as the element window lays them out. -/
theorem pay_apply (x : Vec Ideal S2048x4096 .bf16) (w : Vec Ideal S1x32x16x4096 .f32) (j : S2048x512.Idx) :
    k0_pay3 x (k0_pay2 w) j = ∑ k : Fin 4096, x (ix2 (j 0) k)
      * w (ix4 0 ⟨(j 1).val / 16, by have : (j 1).val < 512 := (j 1).isLt; omega⟩ ⟨(j 1).val % 16, by omega⟩ k) := by
  pointwise [k0_pay3, k0_pay2]

/-- The body's rounded slab at an index. -/
theorem slab_apply (w : Vec Ideal S1x128x4096 .f32) (j : S128x4096.Idx) : k0_pay1 w j = w (ix3 0 (j 0) (j 1)) := by
  pointwise [k0_pay1]

/-- The reference's attention columns at an index. -/
theorem ref_apply (x : FVec Ideal S8192x4096 .bf16) (w : FVec Ideal S2x4096x13376 .f32) (i : S8192x5120.Idx) :
    Cert.Reference2Ideal.Read.val_main_v4 (F := Ideal) x w i = ∑ k : Fin 4096, x (ix2 (i 0) k)
      * w (ix3 1 k ⟨8208 + (i 1).val, by have : (i 1).val < 5120 := (i 1).isLt; omega⟩) := by
  pointwise [Cert.Reference2Ideal.Read.val_main_v4, Cert.Reference2Ideal.Read.val_main_v3, Cert.Reference2Ideal.Read.val_main_v2,
    Cert.Reference2Ideal.Read.val_main_v1, Cert.Reference2Ideal.Read.val_main_v0]

/-- The reference's rounded weight at an index. -/
theorem refw_apply (w : FVec Ideal S2x4096x4096 .f32) (i : S4096x4096.Idx) :
    Cert.Reference2Ideal.Read.val_main_v7 (F := Ideal) w i = w (ix3 1 (i 0) (i 1)) := by
  pointwise [Cert.Reference2Ideal.Read.val_main_v7, Cert.Reference2Ideal.Read.val_main_v6, Cert.Reference2Ideal.Read.val_main_v5]

/-- What the body leaves in the first result's buffer. -/
theorem out3 (c : Dev nD) (i : grid0.Coords) (a2 : Memref sig .tc .vmem S2048x4096 .bf16) (h2 : a2.IsWhole)
    (a3 : Memref sig .tc .vmem S1x32x16x4096 .f32) (h3 : a3.IsWhole) (a4 : Memref sig .tc .vmem S1x128x4096 .f32) (h4 : a4.IsWhole)
    (a5 : Memref sig .tc .vmem S2048x512 .f32) (h5 : a5.IsWhole) (a6 : Memref sig .tc .vmem S128x4096 .bf16) (h6 : a6.IsWhole)
    (a7 : Memref sig .tc .vmem S512x4096 .bf16) (h7 : a7.IsWhole)
    (x0 : Vec Ideal S2048x4096 .bf16) (x1 : Vec Ideal S1x32x16x4096 .f32) (x2 : Vec Ideal S1x128x4096 .f32) :
    out0_A_3 c i a2 h2 a3 h3 a4 h4 a5 h5 a6 h6 a7 h7 x0 x1 x2 = k0_pay3 x0 (k0_pay2 x1) := by
  unfold out0_A_3
  rw [View.read_writes_eq_canon _ _ _ (cover0_A_3 c i a2 h2 a3 h3 a4 h4 a5 h5 a6 h6 a7 h7 x0 x1 x2)]
  unfold kernelRun0_A
  dsimp only
  sl_unfold_words
  rw [View.canon_unit_zero (S := S2048x512) hz, View.readCov_unit_zero (S := S512x4096) _ hz]
  simp only [View.readAt_eq_ld, h2.read_unread, h3.read_unread, View.ld_unit_zero (S := S2048x4096) hz, View.ld_unit_zero (S := S1x32x16x4096) hz4]

/-- What the body leaves in the second result's buffer. -/
theorem out4 (c : Dev nD) (i : grid0.Coords) (a2 : Memref sig .tc .vmem S2048x4096 .bf16) (h2 : a2.IsWhole)
    (a3 : Memref sig .tc .vmem S1x32x16x4096 .f32) (h3 : a3.IsWhole) (a4 : Memref sig .tc .vmem S1x128x4096 .f32) (h4 : a4.IsWhole)
    (a5 : Memref sig .tc .vmem S2048x512 .f32) (h5 : a5.IsWhole) (a6 : Memref sig .tc .vmem S128x4096 .bf16) (h6 : a6.IsWhole)
    (a7 : Memref sig .tc .vmem S512x4096 .bf16) (h7 : a7.IsWhole)
    (x0 : Vec Ideal S2048x4096 .bf16) (x1 : Vec Ideal S1x32x16x4096 .f32) (x2 : Vec Ideal S1x128x4096 .f32) :
    out0_A_4 c i a2 h2 a3 h3 a4 h4 a5 h5 a6 h6 a7 h7 x0 x1 x2 = k0_pay1 x2 := by
  unfold out0_A_4
  rw [View.read_writes_eq_canon _ _ _ (cover0_A_4 c i a2 h2 a3 h3 a4 h4 a5 h5 a6 h6 a7 h7 x0 x1 x2)]
  unfold kernelRun0_A
  dsimp only
  sl_unfold_words
  rw [View.canon_unit_zero (S := S128x4096) hz]
  simp only [View.readAt_eq_ld, h4.read_unread, View.ld_unit_zero (S := S1x128x4096) hz3]

/-- The transposed projection, its rows in groups of 16. -/
abbrev Wt (c : Dev nD) : FVec Ideal S2x836x16x4096 .f32 := shapeCast S2x836x16x4096 (transpose S2x13376x4096 [0, 2, 1]
  (m ((c : Thread nD τ).loc main_arg1)) transposes_S2x4096x13376_S2x13376x4096_0_2_1) shapeCasts_S2x13376x4096_S2x836x16x4096

/-- Entry `(1, r, s, k)` of it is column `16·r + s` of the second layer's projection, at row `k`. -/
theorem wt_apply (c : Dev nD) (r : Fin 836) (s : Fin 16) (k : Fin 4096) :
    Wt m c (ix4 1 r s k) = m ((c : Thread nD τ).loc main_arg1) (ix3 1 k ⟨r.val * 16 + s.val, by omega⟩) := by
  unfold Wt
  generalize (m ((c : Thread nD τ).loc main_arg1) : FVec Ideal S2x4096x13376 .f32) = p
  pointwise

/-- The element window's array as the launch finds it. -/
theorem V_main_v1 (c : Dev nD) : V m c main_v1 = Wt m c := by
  dsimp only [V, hostOps0]
  after_results
  rfl

/-- The first result: the reference's attention columns at this program's arguments. -/
abbrev G (c : Dev nD) : Buf (Elt Ideal) ((c : Thread nD τ).loc main_v2_0) :=
  Cert.Reference2Ideal.Read.val_main_v4 (F := Ideal) (m ((c : Thread nD τ).loc main_arg0)) (m ((c : Thread nD τ).loc main_arg1))

/-- The second result: the reference's rounded weight. -/
abbrev H (c : Dev nD) : Buf (Elt Ideal) ((c : Thread nD τ).loc main_v2_1) :=
  Cert.Reference2Ideal.Read.val_main_v7 (F := Ideal) (m ((c : Thread nD τ).loc main_arg2))

/-- The grid's index maps; the element window's are offsets in rows of 16. -/
theorem idx_facts : ∀ t : Fin cfg0.N, (win0_0.index t 0 = win0_3.index t 0 ∧ win0_0.index t 1 = 0)
    ∧ (win0_1.index t 0 = 1 ∧ win0_1.index t 1 = 513 + 32 * win0_3.index t 1 ∧ win0_1.index t 2 = 0 ∧ win0_1.index t 3 = 0)
    ∧ (win0_2.index t 0 = 1 ∧ win0_2.index t 1 = win0_4.index t 0 ∧ win0_2.index t 2 = 0)
    ∧ (win0_3.index t 0 = t.val / 10 ∧ win0_3.index t 1 = t.val % 10)
    ∧ win0_4.index t 0 = min t.val 31 ∧ win0_4.index t 1 = 0 :=
  (by decide +kernel : ∀ t : Fin grid0.N, _)

/-- Each slab of the rounded weight is written back by some point. -/
theorem slab_flush : ∀ b : Fin 32, ∃ t : Fin cfg0.N, (cfg0.win 4).flush t = true ∧ win0_4.index t 0 = b.val :=
  (by decide +kernel : ∀ b : Fin 32, ∃ t : Fin grid0.N, (win0_4).flush t = true ∧ win0_4.index t 0 = b.val)

/-- What point `t` writes back of the product is its block of the reference's. -/
theorem flushed_eq3 (c : Dev nD) (t : Fin cfg0.N) :
    (dats m 0 c).flushed 3 t = ((cfg0.win 3).blk t).view.read (Elt Ideal) (G m c) := by
  rw [Value.flushed3_A, out3]
  funext (j : S2048x512.Idx)
  have hj : (j 1).val < 512 := (j 1).isLt
  obtain ⟨⟨h00, h01⟩, ⟨h10, h11, h12, h13⟩, -, ⟨h30, h31⟩, -⟩ := idx_facts t
  show k0_pay3 (iblk m c 0 t) (k0_pay2 (iblk m c 1 t)) j = G m c (((cfg0.win 3).blk t).view.emb j)
  refine (pay_apply _ _ j).trans (Eq.trans ?_ (ref_apply _ _ _).symm)
  refine Finset.sum_congr rfl fun k _ => congrArg₂ (· * ·) ?_ ?_
  · show V m c main_arg0 _ = _
    rw [V_main_arg0]
    refine congrArg (m ((c : Thread nD τ).loc main_arg0)) (funext fun a => Fin.ext ?_)
    match a with
    | ⟨0, _⟩ => show win0_0.index t 0 * 2048 + 1 * (j 0).val = win0_3.index t 0 * 2048 + 1 * (j 0).val; rw [h00]
    | ⟨1, _⟩ => show win0_0.index t 1 * 4096 + 1 * k.val = k.val; rw [h01]; omega
  · have hr : 513 + 32 * (t.val % 10) + (j 1).val / 16 < 836 := by omega
    refine Eq.trans (b := Wt m c (ix4 1 ⟨513 + 32 * (t.val % 10) + (j 1).val / 16, hr⟩ ⟨(j 1).val % 16, by omega⟩ k)) ?_ ?_
    · show V m c main_v1 _ = _
      rw [V_main_v1]
      refine congrArg (Wt m c) (funext fun a => Fin.ext ?_)
      match a with
      | ⟨0, _⟩ => show win0_1.index t 0 + 1 * 0 = 1; rw [h10]
      | ⟨1, _⟩ => show win0_1.index t 1 + 1 * ((j 1).val / 16) = 513 + 32 * (t.val % 10) + (j 1).val / 16; rw [h11, h31]; omega
      | ⟨2, _⟩ => show win0_1.index t 2 + 1 * ((j 1).val % 16) = (j 1).val % 16; rw [h12]; omega
      | ⟨3, _⟩ => show win0_1.index t 3 + 1 * k.val = k.val; rw [h13]; omega
    · refine (wt_apply m c _ _ k).trans (congrArg (m ((c : Thread nD τ).loc main_arg1)) (funext fun a => Fin.ext ?_))
      match a with
      | ⟨0, _⟩ => rfl
      | ⟨1, _⟩ => rfl
      | ⟨2, _⟩ =>
        show (513 + 32 * (t.val % 10) + (j 1).val / 16) * 16 + (j 1).val % 16 = 8208 + (win0_3.index t 1 * 512 + 1 * (j 1).val)
        rw [h31]; omega

/-- What point `t` writes back of the rounded weight is its slab of the reference's. -/
theorem flushed_eq4 (c : Dev nD) (t : Fin cfg0.N) :
    (dats m 0 c).flushed 4 t = ((cfg0.win 4).blk t).view.read (Elt Ideal) (H m c) := by
  rw [Value.flushed4_A, out4]
  funext (j : S128x4096.Idx)
  obtain ⟨-, -, ⟨h20, h21, h22⟩, -, -, h41⟩ := idx_facts t
  show k0_pay1 (iblk m c 2 t) j = H m c (((cfg0.win 4).blk t).view.emb j)
  refine (slab_apply _ j).trans (Eq.trans ?_ (refw_apply _ _).symm)
  show V m c main_arg2 _ = _
  rw [V_main_arg2]
  refine congrArg (m ((c : Thread nD τ).loc main_arg2)) (funext fun a => Fin.ext ?_)
  match a with
  | ⟨0, _⟩ => show win0_2.index t 0 * 1 + 1 * 0 = 1; rw [h20]
  | ⟨1, _⟩ => show win0_2.index t 1 * 128 + 1 * (j 0).val = win0_4.index t 0 * 128 + 1 * (j 0).val; rw [h21]
  | ⟨2, _⟩ => show win0_2.index t 2 * 4096 + 1 * (j 1).val = win0_4.index t 1 * 4096 + 1 * (j 1).val; rw [h22, h41]

/-- The product's blocks tile its array. -/
theorem cover3 (i : S8192x5120.Idx) :
    ∃ t : Fin cfg0.N, (cfg0.win 3).flush t = true ∧ i ∈ ((cfg0.win 3).blk t).view.set := by
  have h0 : (i 0 : Nat) < 8192 := (i 0).isLt
  have h1 : (i 1 : Nat) < 5120 := (i 1).isLt
  have hN : cfg0.N = 40 := N_0
  have ht : (i 0 : Nat) / 2048 * 10 + (i 1 : Nat) / 512 < cfg0.N := by omega
  refine ⟨⟨_, ht⟩, flush0_3 _, ?_⟩
  obtain ⟨-, -, -, ⟨h30, h31⟩, -⟩ := idx_facts ⟨_, ht⟩
  show i ∈ ((View.whole main_v2_0).slice (win0_3.rect ⟨_, ht⟩)).set
  rw [View.set_slice_whole, Rect.mem_set_unit]
  intro a
  match a with
  | ⟨0, _⟩ =>
    show win0_3.index ⟨_, ht⟩ 0 * 2048 ≤ (i 0 : Nat) ∧ (i 0 : Nat) < win0_3.index ⟨_, ht⟩ 0 * 2048 + 2048
    rw [h30]; dsimp only; omega
  | ⟨1, _⟩ =>
    show win0_3.index ⟨_, ht⟩ 1 * 512 ≤ (i 1 : Nat) ∧ (i 1 : Nat) < win0_3.index ⟨_, ht⟩ 1 * 512 + 512
    rw [h31]; dsimp only; omega

/-- The rounded weight's slabs tile its array. -/
theorem cover4 (i : S4096x4096.Idx) :
    ∃ t : Fin cfg0.N, (cfg0.win 4).flush t = true ∧ i ∈ ((cfg0.win 4).blk t).view.set := by
  have h0 : (i 0 : Nat) < 4096 := (i 0).isLt
  have h1 : (i 1 : Nat) < 4096 := (i 1).isLt
  obtain ⟨t, hf, hb⟩ := slab_flush ⟨(i 0 : Nat) / 128, by omega⟩
  refine ⟨t, hf, ?_⟩
  obtain ⟨-, -, -, -, -, h41⟩ := idx_facts t
  show i ∈ ((View.whole main_v2_1).slice (win0_4.rect t)).set
  rw [View.set_slice_whole, Rect.mem_set_unit]
  intro a
  match a with
  | ⟨0, _⟩ =>
    show win0_4.index t 0 * 128 ≤ (i 0 : Nat) ∧ (i 0 : Nat) < win0_4.index t 0 * 128 + 128
    rw [hb]; dsimp only; omega
  | ⟨1, _⟩ =>
    show win0_4.index t 1 * 4096 ≤ (i 1 : Nat) ∧ (i 1 : Nat) < win0_4.index t 1 * 4096 + 4096
    rw [h41]; dsimp only; omega

/-- The two result arrays after the run. -/
theorem final3 (c : Dev nD) : (dats m 0 c).arrAt 3 cfg0.N = G m c :=
  (dats m 0 c).arrAt_eq_of_cover 3 (G m c) (fun t _ => flushed_eq3 m c t) cover3
theorem final4 (c : Dev nD) : (dats m 0 c).arrAt 4 cfg0.N = H m c :=
  (dats m 0 c).arrAt_eq_of_cover 4 (H m c) (fun t _ => flushed_eq4 m c t) cover4

end Cert.Kernel2Ideal.InprojNsa

namespace Cert.Proof

/-- The kernel's two results are the reference's. -/
theorem algebraic2 : Cert.algebraic_Kernel2Ideal_Reference2Ideal := by
  intro m g m' g' _ h
  refine ⟨fun c => Cert.Kernel2Ideal.InprojNsa.G m c, fun c => Cert.Kernel2Ideal.InprojNsa.H m c, ?_, ?_⟩
  · exact (θ_run Cert.Kernel2Ideal.defs _ _).mono (fun r hr c => ⟨(hr c).1.trans (Cert.Kernel2Ideal.InprojNsa.final3 m c),
      (hr c).2.1.trans (Cert.Kernel2Ideal.InprojNsa.final4 m c), (hr c).2.2⟩) (Cert.Kernel2Ideal.Value.run_blocks (F := Ideal) m g)
  · refine (θ_run Cert.Reference2Ideal.defs _ _).mono (fun r hr c => ⟨(hr c).1.trans ?_, (hr c).2.1.trans ?_, (hr c).2.2⟩)
      (Cert.Reference2Ideal.Value.run (F := Ideal) m' g')
    · obtain ⟨e0, e1, -⟩ := h c
      rw [e0, e1]
      exact Cert.Reference2Ideal.Read.val_main_v4_eq _ _
    · obtain ⟨-, -, e2⟩ := h c
      rw [e2]
      exact Cert.Reference2Ideal.Read.val_main_v7_eq _

end Cert.Proof

end
-- ==== Proof.OutProj.lean ====
/-
  THE OUTPUT PROJECTION WITH ITS RESIDUAL (`Kernel3Ideal`): the kernel multiplies the three mixers' outputs by their own rows of
  the weight and adds the three products and the residual; the reference concatenates the three and multiplies once. Over the
  extended reals the one sum over 4096 columns is the three sums over 1024, 1024 and 2048.
-/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel3Ideal.OutProj

open Cert.Kernel3Ideal Cert.Kernel3Ideal.Gen

variable (m : (ℓ : Loc nD τ sig) → Buf (Elt Ideal) ℓ) (ρ : Dev nD → PrngReg)

theorem hz : (![0, 0] : Fin 2 → Nat) = fun _ => 0 := funext fun a => by fin_cases a <;> rfl

/-- A sum over 4096 columns, cut at 1024 and 2048. -/
theorem sum_cut (f : Fin 4096 → EReal) : ∑ k : Fin 4096, f k
    = ((∑ k : Fin 1024, f ⟨k.val, by omega⟩) + ∑ k : Fin 1024, f ⟨1024 + k.val, by omega⟩) + ∑ k : Fin 2048, f ⟨2048 + k.val, by omega⟩ := by
  rw [show (∑ k : Fin 4096, f k) = _ from Fin.sum_univ_add (a := 2048) (b := 2048) f,
    show (∑ k : Fin 2048, f (Fin.castAdd 2048 k)) = _ from Fin.sum_univ_add (a := 1024) (b := 1024) fun k => f (Fin.castAdd 2048 k)]
  rfl

/-- The body's payload at an index. -/
theorem pay_apply (a : Vec Ideal S2048x1024 .bf16) (wa : Vec Ideal S1024x512 .bf16) (b : Vec Ideal S2048x1024 .bf16) (wb : Vec Ideal S1024x512 .bf16)
    (d : Vec Ideal S2048x2048 .bf16) (wd : Vec Ideal S2048x512 .bf16) (x : Vec Ideal S2048x512 .f32) (j : S2048x512.Idx) :
    k0_pay1 a wa b wb d wd x j = x j + ((∑ k : Fin 1024, a (ix2 (j 0) k) * wa (ix2 k (j 1))) + (∑ k : Fin 1024, b (ix2 (j 0) k) * wb (ix2 k (j 1)))
      + ∑ k : Fin 2048, d (ix2 (j 0) k) * wd (ix2 k (j 1))) := by
  pointwise [k0_pay1]

/-- The reference at an index. -/
theorem ref_apply (a b : FVec Ideal S8192x1024 .bf16) (d : FVec Ideal S8192x2048 .bf16) (w : FVec Ideal S4096x4096 .bf16) (x : FVec Ideal S8192x4096 .f32)
    (i : S8192x4096.Idx) :
    Cert.Reference3Ideal.Read.val_main_v4 (F := Ideal) a b d w x i = x i + ((∑ k : Fin 1024, a (ix2 (i 0) k) * w (ix2 ⟨k.val, by omega⟩ (i 1)))
      + (∑ k : Fin 1024, b (ix2 (i 0) k) * w (ix2 ⟨1024 + k.val, by omega⟩ (i 1)))
      + ∑ k : Fin 2048, d (ix2 (i 0) k) * w (ix2 ⟨2048 + k.val, by omega⟩ (i 1))) := by
  rw [Cert.Reference3Ideal.Read.val_main_v4_apply, Cert.Reference3Ideal.Read.val_main_v3_apply, sum_cut]
  unfold Cert.Reference3Ideal.Read.val_main_v2 Cert.Reference3Ideal.Read.val_main_v1 Cert.Reference3Ideal.Read.val_main_v0
  pointwise
  have hr : ∀ k : Fin 4096, Cert.Reference3Ideal.Read.ridx_main_v3 i k = ix2 k (i 1) := fun k =>
    funext fun a => by match a with | ⟨0, _⟩ => rfl | ⟨1, _⟩ => rfl
  refine congrArg (x i + ·) (congrArg₂ (· + ·) (congrArg₂ (· + ·) ?_ ?_) ?_) <;> refine Finset.sum_congr rfl fun k _ => ?_
  · rw [hr]; rfl
  · rw [hr]; rfl
  · rw [dif_neg (by omega), dif_neg (by omega), hr]
    have e : (⟨2048 + k.val - 1024 - 1024, by omega⟩ : Fin 2048) = k := Fin.ext (by dsimp only; omega)
    rw [e]; rfl

/-- The whole result: the reference's value at this program's arguments. -/
abbrev G (c : Dev nD) : Buf (Elt Ideal) ((c : Thread nD τ).loc main_v0) :=
  Cert.Reference3Ideal.Read.val_main_v4 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The grid's index maps: the operands' row blocks, the residual's and the result's are one; so are the weight's column
    block, the residual's and the result's. -/
theorem idx_facts : ∀ t : Fin cfg0.N, (win0_0.index t 0 = win0_5.index t 0 ∧ win0_0.index t 1 = 0)
    ∧ (win0_1.index t 0 = win0_5.index t 0 ∧ win0_1.index t 1 = 0)
    ∧ (win0_2.index t 0 = win0_5.index t 0 ∧ win0_2.index t 1 = 0)
    ∧ (win0_3.index t 0 = 0 ∧ win0_3.index t 1 = win0_5.index t 1)
    ∧ (win0_4.index t 0 = win0_5.index t 0 ∧ win0_4.index t 1 = win0_5.index t 1)
    ∧ win0_5.index t 0 = t.val / 8 ∧ win0_5.index t 1 = t.val % 8 :=
  (by decide +kernel : ∀ t : Fin grid0.N, _)

/-- What point `t` writes back is its block of the reference's value. -/
theorem flushed_eq (c : Dev nD) (t : Fin cfg0.N) :
    (dats m 0 c).flushed 5 t = ((cfg0.win 5).blk t).view.read (Elt Ideal) (G m c) := by
  rw [Value.flushed5]
  unfold out0_5
  rw [View.canon_unit_zero hz, View.ld_unit_zero (S := S2048x512) hz, View.ld_unit_zero (S := S2048x1024) hz,
    View.ld_unit_zero (S := S2048x1024) hz, View.ld_unit_zero (S := S2048x2048) hz]
  funext (j : S2048x512.Idx)
  obtain ⟨⟨h00, h01⟩, ⟨h10, h11⟩, ⟨h20, h21⟩, ⟨h30, h31⟩, ⟨h40, h41⟩, -, -⟩ := idx_facts t
  show k0_pay1 (iblk m c 0 t) (View.ld (iblk m c 3 t) r0_1) (iblk m c 1 t) (View.ld (iblk m c 3 t) r0_2) (iblk m c 2 t)
    (View.ld (iblk m c 3 t) r0_4) (iblk m c 4 t) j = G m c (((cfg0.win 5).blk t).view.emb j)
  refine (pay_apply _ _ _ _ _ _ _ j).trans (Eq.trans ?_ (ref_apply _ _ _ _ _ _).symm)
  refine congrArg₂ (· + ·) ?_ (congrArg₂ (· + ·) (congrArg₂ (· + ·) (Finset.sum_congr rfl fun k _ => congrArg₂ (· * ·) ?_ ?_)
    (Finset.sum_congr rfl fun k _ => congrArg₂ (· * ·) ?_ ?_)) (Finset.sum_congr rfl fun k _ => congrArg₂ (· * ·) ?_ ?_))
  · refine congrArg (m ((c : Thread nD τ).loc main_arg4)) (funext fun a => Fin.ext ?_)
    match a with
    | ⟨0, _⟩ => show win0_4.index t 0 * 2048 + 1 * (j 0).val = win0_5.index t 0 * 2048 + 1 * (j 0).val; rw [h40]
    | ⟨1, _⟩ => show win0_4.index t 1 * 512 + 1 * (j 1).val = win0_5.index t 1 * 512 + 1 * (j 1).val; rw [h41]
  · refine congrArg (m ((c : Thread nD τ).loc main_arg0)) (funext fun a => Fin.ext ?_)
    match a with
    | ⟨0, _⟩ => show win0_0.index t 0 * 2048 + 1 * (j 0).val = win0_5.index t 0 * 2048 + 1 * (j 0).val; rw [h00]
    | ⟨1, _⟩ => show win0_0.index t 1 * 1024 + 1 * k.val = k.val; rw [h01]; omega
  · refine congrArg (m ((c : Thread nD τ).loc main_arg3)) (funext fun a => Fin.ext ?_)
    match a with
    | ⟨0, _⟩ => show win0_3.index t 0 * 4096 + 1 * (0 + 1 * k.val) = k.val; rw [h30]; omega
    | ⟨1, _⟩ => show win0_3.index t 1 * 512 + 1 * (0 + 1 * (j 1).val) = win0_5.index t 1 * 512 + 1 * (j 1).val; rw [h31]; omega
  · refine congrArg (m ((c : Thread nD τ).loc main_arg1)) (funext fun a => Fin.ext ?_)
    match a with
    | ⟨0, _⟩ => show win0_1.index t 0 * 2048 + 1 * (j 0).val = win0_5.index t 0 * 2048 + 1 * (j 0).val; rw [h10]
    | ⟨1, _⟩ => show win0_1.index t 1 * 1024 + 1 * k.val = k.val; rw [h11]; omega
  · refine congrArg (m ((c : Thread nD τ).loc main_arg3)) (funext fun a => Fin.ext ?_)
    match a with
    | ⟨0, _⟩ => show win0_3.index t 0 * 4096 + 1 * (1024 + 1 * k.val) = 1024 + k.val; rw [h30]; omega
    | ⟨1, _⟩ => show win0_3.index t 1 * 512 + 1 * (0 + 1 * (j 1).val) = win0_5.index t 1 * 512 + 1 * (j 1).val; rw [h31]; omega
  · refine congrArg (m ((c : Thread nD τ).loc main_arg2)) (funext fun a => Fin.ext ?_)
    match a with
    | ⟨0, _⟩ => show win0_2.index t 0 * 2048 + 1 * (j 0).val = win0_5.index t 0 * 2048 + 1 * (j 0).val; rw [h20]
    | ⟨1, _⟩ => show win0_2.index t 1 * 2048 + 1 * k.val = k.val; rw [h21]; omega
  · refine congrArg (m ((c : Thread nD τ).loc main_arg3)) (funext fun a => Fin.ext ?_)
    match a with
    | ⟨0, _⟩ => show win0_3.index t 0 * 4096 + 1 * (2048 + 1 * k.val) = 2048 + k.val; rw [h30]; omega
    | ⟨1, _⟩ => show win0_3.index t 1 * 512 + 1 * (0 + 1 * (j 1).val) = win0_5.index t 1 * 512 + 1 * (j 1).val; rw [h31]; omega

/-- The result's blocks tile its array. -/
theorem cover (i : S8192x4096.Idx) :
    ∃ t : Fin cfg0.N, (cfg0.win 5).flush t = true ∧ i ∈ ((cfg0.win 5).blk t).view.set := by
  have h0 : (i 0 : Nat) < 8192 := (i 0).isLt
  have h1 : (i 1 : Nat) < 4096 := (i 1).isLt
  have hN : cfg0.N = 32 := N_0
  have ht : (i 0 : Nat) / 2048 * 8 + (i 1 : Nat) / 512 < cfg0.N := by omega
  refine ⟨⟨_, ht⟩, flush0_5 _, ?_⟩
  obtain ⟨-, -, -, -, -, h50, h51⟩ := idx_facts ⟨_, ht⟩
  show i ∈ ((View.whole main_v0).slice (win0_5.rect ⟨_, ht⟩)).set
  rw [View.set_slice_whole, Rect.mem_set_unit]
  intro a
  match a with
  | ⟨0, _⟩ =>
    show win0_5.index ⟨_, ht⟩ 0 * 2048 ≤ (i 0 : Nat) ∧ (i 0 : Nat) < win0_5.index ⟨_, ht⟩ 0 * 2048 + 2048
    rw [h50]; dsimp only; omega
  | ⟨1, _⟩ =>
    show win0_5.index ⟨_, ht⟩ 1 * 512 ≤ (i 1 : Nat) ∧ (i 1 : Nat) < win0_5.index ⟨_, ht⟩ 1 * 512 + 512
    rw [h51]; dsimp only; omega

/-- The result array after the run. -/
theorem final (c : Dev nD) : (dats m 0 c).arrAt 5 cfg0.N = G m c :=
  (dats m 0 c).arrAt_eq_of_cover 5 (G m c) (fun t _ => flushed_eq m c t) cover

end Cert.Kernel3Ideal.OutProj

namespace Cert.Proof

/-- The kernel's result is the reference's. -/
theorem algebraic3 : Cert.algebraic_Kernel3Ideal_Reference3Ideal := by
  intro m g m' g' _ h
  refine ⟨fun c => Cert.Kernel3Ideal.OutProj.G m c, ?_, ?_⟩
  · exact (θ_run Cert.Kernel3Ideal.defs _ _).mono (fun r hr c => ⟨(hr c).1.trans (Cert.Kernel3Ideal.OutProj.final m c), (hr c).2⟩)
      (Cert.Kernel3Ideal.Value.run_blocks (F := Ideal) m g)
  · refine (θ_run Cert.Reference3Ideal.defs _ _).mono (fun r hr c => ⟨(hr c).1.trans ?_, (hr c).2⟩)
      (Cert.Reference3Ideal.Value.run (F := Ideal) m' g')
    obtain ⟨e0, e1, e2, e3, e4⟩ := h c
    rw [e0, e1, e2, e3, e4]
    exact Cert.Reference3Ideal.Read.val_main_v4_eq _ _ _ _ _

end Cert.Proof

end
-- ==== Proof.GateUp.lean ====
/-
  THE FFN'S GATE AND UP PRODUCTS (`Kernel4Ideal`): a point rounds its two weight column blocks into two scratch buffers, multiplies
  its rows by both and stores `silu(g) * u`; beside them it rounds one 64-row slab of the next product's weight. Both results
  are tiled by their blocks.
-/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.Value
public import Idealize.ShloMosaic.Lib.Pointwise
public import Idealize.ShloMosaic.Lib.Tactic
public import Idealize.ShloMosaic.Lib.Quiescent

@[expose] public section

noncomputable section

open Idealize.ShloMosaic Idealize.ShloMosaic.TcCoe Idealize.SL.Sem
open Idealize.ShloMosaic.Pipeline (Dat)

namespace Cert.Kernel4Ideal.GateUp

open Cert.Kernel4Ideal Cert.Kernel4Ideal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- `silu` of an extended real, and the gated product. -/
def gate (g u : EReal) : EReal := g * Ideal.div 1 (1 + Ideal.exp (-g)) * u

/-- The body's gated product at an index. -/
theorem pay_apply (h : Vec Ideal S2048x4096 .bf16) (wg wu : Vec Ideal S1x4096x256 .f32) (j : S2048x256.Idx) :
    k0_pay1 (k0_pay5 h (k0_pay4 wu)) (k0_pay6 h (k0_pay3 wg)) j
      = gate (∑ k : Fin 4096, h (ix2 (j 0) k) * wg (ix3 0 k (j 1))) (∑ k : Fin 4096, h (ix2 (j 0) k) * wu (ix3 0 k (j 1))) := by
  pointwise [k0_pay1, k0_pay3, k0_pay4, k0_pay5, k0_pay6, gate, zero_sub]

/-- The reference's gated product at an index. -/
theorem ref_apply (h : FVec Ideal S8192x4096 .bf16) (wg wu : FVec Ideal S2x4096x11008 .f32) (i : S8192x11008.Idx) :
    Cert.Reference4Ideal.Read.val_main_v9 (F := Ideal) h wg wu i
      = gate (∑ k : Fin 4096, h (ix2 (i 0) k) * wg (ix3 1 k (i 1))) (∑ k : Fin 4096, h (ix2 (i 0) k) * wu (ix3 1 k (i 1))) := by
  unfold Cert.Reference4Ideal.Read.val_main_v9 Cert.Reference4Ideal.Read.val_main_v8 Cert.Reference4Ideal.Read.val_main_v7
    Cert.Reference4Ideal.Read.val_main_v6 Cert.Reference4Ideal.Read.val_main_v5 Cert.Reference4Ideal.Read.val_main_v4
    Cert.Reference4Ideal.Read.val_main_call0_v5 Cert.Reference4Ideal.Read.val_main_call0_v4 Cert.Reference4Ideal.Read.val_main_call0_v3
    Cert.Reference4Ideal.Read.val_main_call0_v2 Cert.Reference4Ideal.Read.val_main_call0_v1 Cert.Reference4Ideal.Read.val_main_call0_v0
    Cert.Reference4Ideal.Read.val_main_call0_cst Cert.Reference4Ideal.Read.val_main_call0_cst_0
    Cert.Reference4Ideal.Read.val_main_v3 Cert.Reference4Ideal.Read.val_main_v2 Cert.Reference4Ideal.Read.val_main_v1 Cert.Reference4Ideal.Read.val_main_v0
  pointwise [gate]

/-- The body's rounded slab at an index. -/
theorem slab_apply (w : Vec Ideal S1x64x4096 .f32) (j : S64x4096.Idx) : k0_pay2 w j = w (ix3 0 (j 0) (j 1)) := by
  pointwise [k0_pay2]

/-- The reference's rounded weight at an index. -/
theorem refw_apply (w : FVec Ideal S2x11008x4096 .f32) (i : S11008x4096.Idx) :
    Cert.Reference4Ideal.Read.val_main_v12 (F := Ideal) w i = w (ix3 1 (i 0) (i 1)) := by
  unfold Cert.Reference4Ideal.Read.val_main_v12 Cert.Reference4Ideal.Read.val_main_v11 Cert.Reference4Ideal.Read.val_main_v10
  pointwise

/-- What the body leaves in the first result's buffer. -/
theorem out4 (c : Dev nD) (i : grid0.Coords) (a2 : Memref sig .tc .vmem S2048x4096 .bf16) (h2 : a2.IsWhole)
    (a3 : Memref sig .tc .vmem S1x4096x256 .f32) (h3 : a3.IsWhole) (a4 : Memref sig .tc .vmem S1x4096x256 .f32) (h4 : a4.IsWhole)
    (a5 : Memref sig .tc .vmem S1x64x4096 .f32) (h5 : a5.IsWhole) (a6 : Memref sig .tc .vmem S2048x256 .bf16) (h6 : a6.IsWhole)
    (a7 : Memref sig .tc .vmem S64x4096 .bf16) (h7 : a7.IsWhole) (a8 : Memref sig .tc .vmem S4096x256 .bf16) (h8 : a8.IsWhole)
    (a9 : Memref sig .tc .vmem S4096x256 .bf16) (h9 : a9.IsWhole)
    (x0 : Vec Ideal S2048x4096 .bf16) (x1 x2 : Vec Ideal S1x4096x256 .f32) (x3 : Vec Ideal S1x64x4096 .f32) :
    out0_A_4 c i a2 h2 a3 h3 a4 h4 a5 h5 a6 h6 a7 h7 a8 h8 a9 h9 x0 x1 x2 x3 = k0_pay1 (k0_pay5 x0 (k0_pay4 x2)) (k0_pay6 x0 (k0_pay3 x1)) := by
  unfold out0_A_4
  rw [View.read_writes_eq_canon _ _ _ (cover0_A_4 c i a2 h2 a3 h3 a4 h4 a5 h5 a6 h6 a7 h7 a8 h8 a9 h9 x0 x1 x2 x3)]
  unfold kernelRun0_A
  dsimp only
  sl_unfold_words
  rw [View.canon_unit_zero (S := S2048x256) hz, View.readCov_unit_zero (S := S4096x256) _ hz, View.readCov_unit_zero (S := S4096x256) _ hz]
  simp only [View.readAt_eq_ld, h2.read_unread, h3.read_unread, h4.read_unread, View.ld_unit_zero (S := S2048x4096) hz, View.ld_unit_zero (S := S1x4096x256) hz3]

/-- What the body leaves in the second result's buffer. -/
theorem out5 (c : Dev nD) (i : grid0.Coords) (a2 : Memref sig .tc .vmem S2048x4096 .bf16) (h2 : a2.IsWhole)
    (a3 : Memref sig .tc .vmem S1x4096x256 .f32) (h3 : a3.IsWhole) (a4 : Memref sig .tc .vmem S1x4096x256 .f32) (h4 : a4.IsWhole)
    (a5 : Memref sig .tc .vmem S1x64x4096 .f32) (h5 : a5.IsWhole) (a6 : Memref sig .tc .vmem S2048x256 .bf16) (h6 : a6.IsWhole)
    (a7 : Memref sig .tc .vmem S64x4096 .bf16) (h7 : a7.IsWhole) (a8 : Memref sig .tc .vmem S4096x256 .bf16) (h8 : a8.IsWhole)
    (a9 : Memref sig .tc .vmem S4096x256 .bf16) (h9 : a9.IsWhole)
    (x0 : Vec Ideal S2048x4096 .bf16) (x1 x2 : Vec Ideal S1x4096x256 .f32) (x3 : Vec Ideal S1x64x4096 .f32) :
    out0_A_5 c i a2 h2 a3 h3 a4 h4 a5 h5 a6 h6 a7 h7 a8 h8 a9 h9 x0 x1 x2 x3 = k0_pay2 x3 := by
  unfold out0_A_5
  rw [View.read_writes_eq_canon _ _ _ (cover0_A_5 c i a2 h2 a3 h3 a4 h4 a5 h5 a6 h6 a7 h7 a8 h8 a9 h9 x0 x1 x2 x3)]
  unfold kernelRun0_A
  dsimp only
  sl_unfold_words
  rw [View.canon_unit_zero (S := S64x4096) hz]
  simp only [View.readAt_eq_ld, h5.read_unread, View.ld_unit_zero (S := S1x64x4096) hz3]

/-- The first result: the reference's gated product at this program's arguments. -/
abbrev G (c : Dev nD) : Buf (Elt Ideal) ((c : Thread nD τ).loc main_v0_0) :=
  Cert.Reference4Ideal.Read.val_main_v9 (F := Ideal) (m ((c : Thread nD τ).loc main_arg0)) (m ((c : Thread nD τ).loc main_arg1))
    (m ((c : Thread nD τ).loc main_arg2))

/-- The second result: the reference's rounded weight. -/
abbrev H (c : Dev nD) : Buf (Elt Ideal) ((c : Thread nD τ).loc main_v0_1) :=
  Cert.Reference4Ideal.Read.val_main_v12 (F := Ideal) (m ((c : Thread nD τ).loc main_arg3))

/-- The grid's index maps: rows of `h` and of the result go together, columns of the two weights (the second layer's) and of
    the result go together, and point `t` rounds slab `t`. -/
theorem idx_facts : ∀ t : Fin cfg0.N, (win0_0.index t 0 = win0_4.index t 0 ∧ win0_0.index t 1 = 0)
    ∧ (win0_1.index t 0 = 1 ∧ win0_1.index t 1 = 0 ∧ win0_1.index t 2 = win0_4.index t 1)
    ∧ (win0_2.index t 0 = 1 ∧ win0_2.index t 1 = 0 ∧ win0_2.index t 2 = win0_4.index t 1)
    ∧ (win0_3.index t 0 = 1 ∧ win0_3.index t 1 = t.val ∧ win0_3.index t 2 = 0)
    ∧ (win0_4.index t 0 = t.val / 43 ∧ win0_4.index t 1 = t.val % 43)
    ∧ win0_5.index t 0 = t.val ∧ win0_5.index t 1 = 0 :=
  (by decide +kernel : ∀ t : Fin grid0.N, _)

/-- What point `t` writes back of the gated product is its block of the reference's. -/
theorem flushed_eq4 (c : Dev nD) (t : Fin cfg0.N) :
    (dats m 0 c).flushed 4 t = ((cfg0.win 4).blk t).view.read (Elt Ideal) (G m c) := by
  rw [Value.flushed4_A, out4]
  funext (j : S2048x256.Idx)
  obtain ⟨⟨h00, h01⟩, ⟨h10, h11, h12⟩, ⟨h20, h21, h22⟩, -, -, -, -⟩ := idx_facts t
  show k0_pay1 (k0_pay5 (iblk m c 0 t) (k0_pay4 (iblk m c 2 t))) (k0_pay6 (iblk m c 0 t) (k0_pay3 (iblk m c 1 t))) j
    = G m c (((cfg0.win 4).blk t).view.emb j)
  refine (pay_apply _ _ _ j).trans (Eq.trans ?_ (ref_apply _ _ _ _).symm)
  have ex : ∀ k : Fin 4096, iblk m c 0 t (ix2 (j 0) k) = m ((c : Thread nD τ).loc main_arg0) (ix2 (((cfg0.win 4).blk t).view.emb j 0) k) := fun k => by
    refine congrArg (m ((c : Thread nD τ).loc main_arg0)) (funext fun a => Fin.ext ?_)
    match a with
    | ⟨0, _⟩ => show win0_0.index t 0 * 2048 + 1 * (j 0).val = win0_4.index t 0 * 2048 + 1 * (j 0).val; rw [h00]
    | ⟨1, _⟩ => show win0_0.index t 1 * 4096 + 1 * k.val = k.val; rw [h01]; omega
  refine congrArg₂ gate (Finset.sum_congr rfl fun k _ => congrArg₂ (· * ·) (ex k) ?_) (Finset.sum_congr rfl fun k _ => congrArg₂ (· * ·) (ex k) ?_)
  · refine congrArg (m ((c : Thread nD τ).loc main_arg1)) (funext fun a => Fin.ext ?_)
    match a with
    | ⟨0, _⟩ => show win0_1.index t 0 * 1 + 1 * 0 = 1; rw [h10]
    | ⟨1, _⟩ => show win0_1.index t 1 * 4096 + 1 * k.val = k.val; rw [h11]; omega
    | ⟨2, _⟩ => show win0_1.index t 2 * 256 + 1 * (j 1).val = win0_4.index t 1 * 256 + 1 * (j 1).val; rw [h12]
  · refine congrArg (m ((c : Thread nD τ).loc main_arg2)) (funext fun a => Fin.ext ?_)
    match a with
    | ⟨0, _⟩ => show win0_2.index t 0 * 1 + 1 * 0 = 1; rw [h20]
    | ⟨1, _⟩ => show win0_2.index t 1 * 4096 + 1 * k.val = k.val; rw [h21]; omega
    | ⟨2, _⟩ => show win0_2.index t 2 * 256 + 1 * (j 1).val = win0_4.index t 1 * 256 + 1 * (j 1).val; rw [h22]

/-- What point `t` writes back of the rounded weight is its slab of the reference's. -/
theorem flushed_eq5 (c : Dev nD) (t : Fin cfg0.N) :
    (dats m 0 c).flushed 5 t = ((cfg0.win 5).blk t).view.read (Elt Ideal) (H m c) := by
  rw [Value.flushed5_A, out5]
  funext (j : S64x4096.Idx)
  obtain ⟨-, -, -, ⟨h30, h31, h32⟩, -, h50, h51⟩ := idx_facts t
  show k0_pay2 (iblk m c 3 t) j = H m c (((cfg0.win 5).blk t).view.emb j)
  refine (slab_apply _ j).trans (Eq.trans ?_ (refw_apply _ _).symm)
  refine congrArg (m ((c : Thread nD τ).loc main_arg3)) (funext fun a => Fin.ext ?_)
  match a with
  | ⟨0, _⟩ => show win0_3.index t 0 * 1 + 1 * 0 = 1; rw [h30]
  | ⟨1, _⟩ => show win0_3.index t 1 * 64 + 1 * (j 0).val = win0_5.index t 0 * 64 + 1 * (j 0).val; rw [h31, h50]
  | ⟨2, _⟩ => show win0_3.index t 2 * 4096 + 1 * (j 1).val = win0_5.index t 1 * 4096 + 1 * (j 1).val; rw [h32, h51]

/-- The gated product's blocks tile its array. -/
theorem cover4 (i : S8192x11008.Idx) :
    ∃ t : Fin cfg0.N, (cfg0.win 4).flush t = true ∧ i ∈ ((cfg0.win 4).blk t).view.set := by
  have h0 : (i 0 : Nat) < 8192 := (i 0).isLt
  have h1 : (i 1 : Nat) < 11008 := (i 1).isLt
  have hN : cfg0.N = 172 := N_0
  have ht : (i 0 : Nat) / 2048 * 43 + (i 1 : Nat) / 256 < cfg0.N := by omega
  refine ⟨⟨_, ht⟩, flush0_4 _, ?_⟩
  obtain ⟨-, -, -, -, ⟨h40, h41⟩, -, -⟩ := idx_facts ⟨_, ht⟩
  show i ∈ ((View.whole main_v0_0).slice (win0_4.rect ⟨_, ht⟩)).set
  rw [View.set_slice_whole, Rect.mem_set_unit]
  intro a
  match a with
  | ⟨0, _⟩ =>
    show win0_4.index ⟨_, ht⟩ 0 * 2048 ≤ (i 0 : Nat) ∧ (i 0 : Nat) < win0_4.index ⟨_, ht⟩ 0 * 2048 + 2048
    rw [h40]; dsimp only; omega
  | ⟨1, _⟩ =>
    show win0_4.index ⟨_, ht⟩ 1 * 256 ≤ (i 1 : Nat) ∧ (i 1 : Nat) < win0_4.index ⟨_, ht⟩ 1 * 256 + 256
    rw [h41]; dsimp only; omega

/-- The rounded weight's slabs tile its array. -/
theorem cover5 (i : S11008x4096.Idx) :
    ∃ t : Fin cfg0.N, (cfg0.win 5).flush t = true ∧ i ∈ ((cfg0.win 5).blk t).view.set := by
  have h0 : (i 0 : Nat) < 11008 := (i 0).isLt
  have h1 : (i 1 : Nat) < 4096 := (i 1).isLt
  have hN : cfg0.N = 172 := N_0
  have ht : (i 0 : Nat) / 64 < cfg0.N := by omega
  refine ⟨⟨_, ht⟩, flush0_5 _, ?_⟩
  obtain ⟨-, -, -, -, -, h50, h51⟩ := idx_facts ⟨_, ht⟩
  show i ∈ ((View.whole main_v0_1).slice (win0_5.rect ⟨_, ht⟩)).set
  rw [View.set_slice_whole, Rect.mem_set_unit]
  intro a
  match a with
  | ⟨0, _⟩ =>
    show win0_5.index ⟨_, ht⟩ 0 * 64 ≤ (i 0 : Nat) ∧ (i 0 : Nat) < win0_5.index ⟨_, ht⟩ 0 * 64 + 64
    rw [h50]; dsimp only; omega
  | ⟨1, _⟩ =>
    show win0_5.index ⟨_, ht⟩ 1 * 4096 ≤ (i 1 : Nat) ∧ (i 1 : Nat) < win0_5.index ⟨_, ht⟩ 1 * 4096 + 4096
    rw [h51]; dsimp only; omega

/-- The two result arrays after the run. -/
theorem final4 (c : Dev nD) : (dats m 0 c).arrAt 4 cfg0.N = G m c :=
  (dats m 0 c).arrAt_eq_of_cover 4 (G m c) (fun t _ => flushed_eq4 m c t) cover4
theorem final5 (c : Dev nD) : (dats m 0 c).arrAt 5 cfg0.N = H m c :=
  (dats m 0 c).arrAt_eq_of_cover 5 (H m c) (fun t _ => flushed_eq5 m c t) cover5

end Cert.Kernel4Ideal.GateUp

namespace Cert.Proof

/-- The kernel's two results are the reference's. -/
theorem algebraic4 : Cert.algebraic_Kernel4Ideal_Reference4Ideal := by
  intro m g m' g' _ h
  refine ⟨fun c => Cert.Kernel4Ideal.GateUp.G m c, fun c => Cert.Kernel4Ideal.GateUp.H m c, ?_, ?_⟩
  · exact (θ_run Cert.Kernel4Ideal.defs _ _).mono (fun r hr c => ⟨(hr c).1.trans (Cert.Kernel4Ideal.GateUp.final4 m c),
      (hr c).2.1.trans (Cert.Kernel4Ideal.GateUp.final5 m c), (hr c).2.2⟩) (Cert.Kernel4Ideal.Value.run_blocks (F := Ideal) m g)
  · refine (θ_run Cert.Reference4Ideal.defs _ _).mono (fun r hr c => ⟨(hr c).1.trans ?_, (hr c).2.1.trans ?_, (hr c).2.2⟩)
      (Cert.Reference4Ideal.Value.run (F := Ideal) m' g')
    · obtain ⟨e0, e1, e2, -⟩ := h c
      rw [e0, e1, e2]
      exact Cert.Reference4Ideal.Read.val_main_v9_eq _ _ _
    · obtain ⟨-, -, -, e3⟩ := h c
      rw [e3]
      exact Cert.Reference4Ideal.Read.val_main_v12_eq _

end Cert.Proof

end
-- ==== Proof.Down.lean ====
/-
  THE FFN'S SECOND MATMUL WITH ITS RESIDUAL (`Kernel5Ideal`): what one point of the 8 × 16 grid writes back is its block of
  `x + a @ w`, the blocks tile the result, so the result array is the reference's value of it.
-/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.Value
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel5Ideal.Down

open Cert.Kernel5Ideal Cert.Kernel5Ideal.Gen

variable (m : (ℓ : Loc nD τ sig) → Buf (Elt Ideal) ℓ) (ρ : Dev nD → PrngReg)

theorem hz : (![0, 0] : Fin 2 → Nat) = fun _ => 0 := funext fun a => by fin_cases a <;> rfl

/-- The body's payload at an index: the residual plus the row times the column. -/
theorem pay_apply (x : Vec Ideal S1024x256 .f32) (a : Vec Ideal S1024x11008 .bf16) (w : Vec Ideal S11008x256 .bf16) (j : S1024x256.Idx) :
    k0_pay1 x a w j = x j + ∑ k : Fin 11008, a (ix2 (j 0) k) * w (ix2 k (j 1)) := by
  pointwise [k0_pay1]

/-- The whole result: the reference's value at this program's arguments. -/
abbrev G (c : Dev nD) : Buf (Elt Ideal) ((c : Thread nD τ).loc main_v0) :=
  Cert.Reference5Ideal.Read.val_main_v3 (F := Ideal) (m ((c : Thread nD τ).loc main_arg0)) (m ((c : Thread nD τ).loc main_arg1))
    (m ((c : Thread nD τ).loc main_arg2))

/-- The reference at an index. -/
theorem ref_apply (a : FVec Ideal S8192x11008 .bf16) (w : FVec Ideal S11008x4096 .bf16) (x : FVec Ideal S8192x4096 .f32) (i : S8192x4096.Idx) :
    Cert.Reference5Ideal.Read.val_main_v3 (F := Ideal) a w x i = x i + ∑ k : Fin 11008, a (ix2 (i 0) k) * w (ix2 k (i 1)) := by
  pointwise [Cert.Reference5Ideal.Read.val_main_v3, Cert.Reference5Ideal.Read.val_main_v2, Cert.Reference5Ideal.Read.val_main_v1, Cert.Reference5Ideal.Read.val_main_v0]

/-- The grid's index maps: a point's row block is the one its rows of `a`, its residual and its result share, its column
    block the one its columns of `w` share. -/
theorem idx_facts : ∀ t : Fin cfg0.N, win0_0.index t 0 = win0_3.index t 0 ∧ win0_0.index t 1 = 0
    ∧ win0_1.index t 0 = 0 ∧ win0_1.index t 1 = win0_3.index t 1
    ∧ win0_2.index t 0 = win0_3.index t 0 ∧ win0_2.index t 1 = win0_3.index t 1
    ∧ win0_3.index t 0 = t.val / 16 ∧ win0_3.index t 1 = t.val % 16 :=
  (by decide +kernel : ∀ t : Fin grid0.N, _)

theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero (S := S1024x256) hz, View.ld_unit_zero (S := S1024x11008) hz,
    View.ld_unit_zero (S := S11008x256) hz]
  funext (j : S1024x256.Idx)
  obtain ⟨h00, h01, h10, h11, h20, h21, -, -⟩ := idx_facts t
  show k0_pay1 (iblk m c 2 t) (iblk m c 0 t) (iblk m c 1 t) j = G m c (((cfg0.win 3).blk t).view.emb j)
  refine (pay_apply _ _ _ j).trans (Eq.trans ?_ (ref_apply _ _ _ _).symm)
  refine congrArg₂ (· + ·) ?_ (Finset.sum_congr rfl fun k _ => congrArg₂ (· * ·) ?_ ?_)
  · refine congrArg (m ((c : Thread nD τ).loc main_arg2)) (funext fun a => Fin.ext ?_)
    match a with
    | ⟨0, _⟩ => show win0_2.index t 0 * 1024 + 1 * (j 0).val = win0_3.index t 0 * 1024 + 1 * (j 0).val; rw [h20]
    | ⟨1, _⟩ => show win0_2.index t 1 * 256 + 1 * (j 1).val = win0_3.index t 1 * 256 + 1 * (j 1).val; rw [h21]
  · refine congrArg (m ((c : Thread nD τ).loc main_arg0)) (funext fun a => Fin.ext ?_)
    match a with
    | ⟨0, _⟩ => show win0_0.index t 0 * 1024 + 1 * (j 0).val = win0_3.index t 0 * 1024 + 1 * (j 0).val; rw [h00]
    | ⟨1, _⟩ => show win0_0.index t 1 * 11008 + 1 * k.val = k.val; rw [h01]; omega
  · refine congrArg (m ((c : Thread nD τ).loc main_arg1)) (funext fun a => Fin.ext ?_)
    match a with
    | ⟨0, _⟩ => show win0_1.index t 0 * 11008 + 1 * k.val = k.val; rw [h10]; omega
    | ⟨1, _⟩ => show win0_1.index t 1 * 256 + 1 * (j 1).val = win0_3.index t 1 * 256 + 1 * (j 1).val; rw [h11]

/-- The result's blocks tile its array. -/
theorem cover (i : S8192x4096.Idx) :
    ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 128 := N_0
  have ht : (i 0 : Nat) / 1024 * 16 + (i 1 : Nat) / 256 < cfg0.N := by omega
  refine ⟨⟨_, ht⟩, flush0_3 _, ?_⟩
  obtain ⟨-, -, -, -, -, -, h30, h31⟩ := idx_facts ⟨_, ht⟩
  show i ∈ ((View.whole main_v0).slice (win0_3.rect ⟨_, ht⟩)).set
  rw [View.set_slice_whole, Rect.mem_set_unit]
  intro a
  match a with
  | ⟨0, _⟩ =>
    show win0_3.index ⟨_, ht⟩ 0 * 1024 ≤ (i 0 : Nat) ∧ (i 0 : Nat) < win0_3.index ⟨_, ht⟩ 0 * 1024 + 1024
    rw [h30]; dsimp only; omega
  | ⟨1, _⟩ =>
    show win0_3.index ⟨_, ht⟩ 1 * 256 ≤ (i 1 : Nat) ∧ (i 1 : Nat) < win0_3.index ⟨_, ht⟩ 1 * 256 + 256
    rw [h31]; dsimp only; omega

/-- The result array after the run. -/
theorem final (c : Dev nD) : (dats m 0 c).arrAt 3 cfg0.N = G m c :=
  (dats m 0 c).arrAt_eq_of_cover 3 (G m c) (fun t _ => flushed_eq m c t) cover

end Cert.Kernel5Ideal.Down

namespace Cert.Proof

/-- The kernel's result is the reference's. -/
theorem algebraic5 : Cert.algebraic_Kernel5Ideal_Reference5Ideal := by
  intro m g m' g' _ h
  refine ⟨fun c => Cert.Kernel5Ideal.Down.G m c, ?_, ?_⟩
  · exact (θ_run Cert.Kernel5Ideal.defs _ _).mono (fun r hr c => ⟨(hr c).1.trans (Cert.Kernel5Ideal.Down.final m c), (hr c).2⟩)
      (Cert.Kernel5Ideal.Value.run_blocks (F := Ideal) m g)
  · refine (θ_run Cert.Reference5Ideal.defs _ _).mono (fun r hr c => ⟨(hr c).1.trans ?_, (hr c).2⟩)
      (Cert.Reference5Ideal.Value.run (F := Ideal) m' g')
    obtain ⟨e0, e1, e2⟩ := h c
    rw [e0, e1, e2]
    exact Cert.Reference5Ideal.Read.val_main_v3_eq _ _ _

end Cert.Proof

end
-- ==== Proof.FinalNorm.lean ====
/-
  THE FINAL RMS NORM (`Kernel6Ideal`): a point normalizes 256 whole rows; a row of the result depends on that row alone, so the
  blocks written back are the blocks of the reference's normalized array.
-/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import Idealize.ShloMosaic.Lib.Pipeline.Value
public import Idealize.ShloMosaic.Lib.StableHlo.Run
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel6Ideal.FinalNorm

open Cert.Kernel6Ideal Cert.Kernel6Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One element of a normalized row: the element, times the reciprocal root of the row's mean square plus 1e-6, times the weight. -/
def norm1 (x : EReal) (row : Fin 4096 → EReal) (w : EReal) : EReal :=
  x * Ideal.rsqrt (Ideal.div (∑ k : Fin 4096, row k * row k) (Ideal.ofBits .f32 0x45800000#32) + Ideal.ofBits .f32 0x358637BD#32) * w

/-- The body's payload at an index. -/
theorem pay_apply (x : Vec Ideal S256x4096 .f32) (w : Vec Ideal S1x4096 .f32) (j : S256x4096.Idx) :
    k0_pay1 x w j = norm1 (x j) (fun k => x (ix2 (j 0) k)) (w (ix2 0 (j 1))) := by
  pointwise [k0_pay1, norm1]

/-- The reference at an index. -/
theorem ref_apply (x : FVec Ideal S8192x4096 .f32) (w : FVec Ideal Cert.Reference6Ideal.S4096 .f32) (i : S8192x4096.Idx) :
    Cert.Reference6Ideal.Read.val_main_v12 (F := Ideal) x w i = norm1 (x i) (fun k => x (ix2 (i 0) k)) (w (ix1 (i 1))) := by
  unfold Cert.Reference6Ideal.Read.val_main_v12 Cert.Reference6Ideal.Read.val_main_v11 Cert.Reference6Ideal.Read.val_main_v10
    Cert.Reference6Ideal.Read.val_main_v9 Cert.Reference6Ideal.Read.val_main_v8 Cert.Reference6Ideal.Read.val_main_v7
    Cert.Reference6Ideal.Read.val_main_v6 Cert.Reference6Ideal.Read.val_main_v5 Cert.Reference6Ideal.Read.val_main_v4
    Cert.Reference6Ideal.Read.val_main_v3 Cert.Reference6Ideal.Read.val_main_v2 Cert.Reference6Ideal.Read.val_main_v1
    Cert.Reference6Ideal.Read.val_main_v0 Cert.Reference6Ideal.Read.val_main_cst Cert.Reference6Ideal.Read.val_main_cst_0
    Cert.Reference6Ideal.Read.val_main_cst_1
  pointwise [norm1]

/-- The weight as one row, at an index. -/
theorem row_apply (w : FVec Ideal S4096 .f32) (h : S4096.ShapeCasts S1x4096) (i : S1x4096.Idx) : shapeCast S1x4096 w h i = w (ix1 (i 1)) := by
  refine shapeCast_apply w h i (ix1 (i 1)) ?_
  rw [Shape.rowMajor_val_one, Shape.rowMajor_val_two]
  have h0 : (i 0).val < 1 := (i 0).isLt
  show (i 1).val = (i 0).val * 4096 + (i 1).val
  omega

/-- The weight as the launch finds it: the argument as one row. -/
theorem V_main_v0 (c : Dev nD) : V m c main_v0 = shapeCast S1x4096 (m ((c : Thread nD τ).loc main_arg1)) shapeCasts_S4096_S1x4096 := by
  dsimp only [V, hostOps0]
  after_results
  rfl

/-- The whole result: the reference's value at this program's arguments. -/
abbrev G (c : Dev nD) : Buf (Elt Ideal) ((c : Thread nD τ).loc main_v1) :=
  Cert.Reference6Ideal.Read.val_main_v12 (F := Ideal) (m ((c : Thread nD τ).loc main_arg0)) (m ((c : Thread nD τ).loc main_arg1))

/-- The grid's index maps: a point's rows in and rows out are one block; every point reads the whole weight. -/
theorem idx_facts : ∀ t : Fin cfg0.N, (win0_0.index t 0 = t.val ∧ win0_0.index t 1 = 0)
    ∧ (win0_1.index t 0 = 0 ∧ win0_1.index t 1 = 0) ∧ win0_2.index t 0 = t.val ∧ win0_2.index t 1 = 0 :=
  (by decide +kernel : ∀ t : Fin grid0.N, _)

/-- What point `t` writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero (S := S256x4096) hz, View.ld_unit_zero (S := S1x4096) hz]
  funext (j : S256x4096.Idx)
  obtain ⟨⟨h00, h01⟩, ⟨h10, h11⟩, h20, h21⟩ := idx_facts t
  show k0_pay1 (iblk m c 0 t) (iblk m c 1 t) j = G m c (((cfg0.win 2).blk t).view.emb j)
  refine (pay_apply _ _ j).trans (Eq.trans ?_ (ref_apply _ _ _).symm)
  have e0 : ∀ k : Fin 4096, iblk m c 0 t (ix2 (j 0) k) = m ((c : Thread nD τ).loc main_arg0) (ix2 (((cfg0.win 2).blk t).view.emb j 0) k) := fun k => by
    show V m c main_arg0 _ = _
    rw [V_main_arg0]
    refine congrArg (m ((c : Thread nD τ).loc main_arg0)) (funext fun a => Fin.ext ?_)
    match a with
    | ⟨0, _⟩ => show win0_0.index t 0 * 256 + 1 * (j 0).val = win0_2.index t 0 * 256 + 1 * (j 0).val; rw [h00, h20]
    | ⟨1, _⟩ => show win0_0.index t 1 * 4096 + 1 * k.val = k.val; rw [h01]; omega
  have e1 : iblk m c 0 t j = m ((c : Thread nD τ).loc main_arg0) (((cfg0.win 2).blk t).view.emb j) := by
    show V m c main_arg0 _ = _
    rw [V_main_arg0]
    refine congrArg (m ((c : Thread nD τ).loc main_arg0)) (funext fun a => Fin.ext ?_)
    match a with
    | ⟨0, _⟩ => show win0_0.index t 0 * 256 + 1 * (j 0).val = win0_2.index t 0 * 256 + 1 * (j 0).val; rw [h00, h20]
    | ⟨1, _⟩ => show win0_0.index t 1 * 4096 + 1 * (j 1).val = win0_2.index t 1 * 4096 + 1 * (j 1).val; rw [h01, h21]
  have e2 : iblk m c 1 t (ix2 0 (j 1)) = m ((c : Thread nD τ).loc main_arg1) (ix1 (((cfg0.win 2).blk t).view.emb j 1)) := by
    show V m c main_v0 _ = _
    rw [V_main_v0]
    refine (row_apply _ _ _).trans (congrArg (m ((c : Thread nD τ).loc main_arg1)) (funext fun a => Fin.ext ?_))
    match a with
    | ⟨0, _⟩ => show win0_1.index t 1 * 4096 + 1 * (j 1).val = win0_2.index t 1 * 4096 + 1 * (j 1).val; rw [h11, h21]
  exact congr (congr (congrArg norm1 e1) (funext e0)) e2

/-- The result's blocks tile its array. -/
theorem cover (i : S8192x4096.Idx) :
    ∃ t : Fin cfg0.N, (cfg0.win 2).flush t = true ∧ i ∈ ((cfg0.win 2).blk t).view.set := by
  have h0 : (i 0 : Nat) < 8192 := (i 0).isLt
  have h1 : (i 1 : Nat) < 4096 := (i 1).isLt
  have hN : cfg0.N = 32 := N_0
  have ht : (i 0 : Nat) / 256 < cfg0.N := by omega
  refine ⟨⟨_, ht⟩, flush0_2 _, ?_⟩
  obtain ⟨-, -, h20, h21⟩ := idx_facts ⟨_, ht⟩
  show i ∈ ((View.whole main_v1).slice (win0_2.rect ⟨_, ht⟩)).set
  rw [View.set_slice_whole, Rect.mem_set_unit]
  intro a
  match a with
  | ⟨0, _⟩ =>
    show win0_2.index ⟨_, ht⟩ 0 * 256 ≤ (i 0 : Nat) ∧ (i 0 : Nat) < win0_2.index ⟨_, ht⟩ 0 * 256 + 256
    rw [h20]; dsimp only; omega
  | ⟨1, _⟩ =>
    show win0_2.index ⟨_, ht⟩ 1 * 4096 ≤ (i 1 : Nat) ∧ (i 1 : Nat) < win0_2.index ⟨_, ht⟩ 1 * 4096 + 4096
    rw [h21]; dsimp only; omega

/-- The result array after the run. -/
theorem final (c : Dev nD) : (dats m 0 c).arrAt 2 cfg0.N = G m c :=
  (dats m 0 c).arrAt_eq_of_cover 2 (G m c) (fun t _ => flushed_eq m c t) cover

end Cert.Kernel6Ideal.FinalNorm

namespace Cert.Proof

/-- The kernel's result is the reference's. -/
theorem algebraic6 : Cert.algebraic_Kernel6Ideal_Reference6Ideal := by
  intro m g m' g' _ h
  refine ⟨fun c => Cert.Kernel6Ideal.FinalNorm.G m c, ?_, ?_⟩
  · exact (θ_run Cert.Kernel6Ideal.defs _ _).mono (fun r hr c => ⟨(hr c).1.trans (Cert.Kernel6Ideal.FinalNorm.final m c), (hr c).2⟩)
      (Cert.Kernel6Ideal.Value.run_blocks (F := Ideal) m g)
  · refine (θ_run Cert.Reference6Ideal.defs _ _).mono (fun r hr c => ⟨(hr c).1.trans ?_, (hr c).2⟩)
      (Cert.Reference6Ideal.Value.run (F := Ideal) m' g')
    obtain ⟨e0, e1⟩ := h c
    rw [e0, e1]
    exact Cert.Reference6Ideal.Read.val_main_v12_eq _ _

end Cert.Proof

end
-- ==== Proof.NormSmall.lean ====
/-
  THE NORM BEFORE THE MIXERS AND THE SCALAR PROJECTIONS (`Kernel7Ideal`): a point normalizes 256 whole rows and multiplies them by
  the 64 scalar columns of the input projection, laid out as 128 rows of which the last 64 are zeros: a zero row gives a zero
  column, which is what the reference's padding holds.
-/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import Idealize.ShloMosaic.Lib.Pipeline.Value
public import Idealize.ShloMosaic.Lib.StableHlo.Run
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel7Ideal.NormSmall

open Cert.Kernel7Ideal Cert.Kernel7Ideal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- One element of a normalized row: the element, times the reciprocal root of the row's mean square plus 1e-6, times the weight. -/
def norm1 (x : EReal) (row : Fin 4096 → EReal) (w : EReal) : EReal :=
  x * Ideal.rsqrt (Ideal.div (∑ k : Fin 4096, row k * row k) (Ideal.ofBits .f32 0x45800000#32) + Ideal.ofBits .f32 0x358637BD#32) * w

/-- The body's normalized rows at an index. -/
theorem pay1_apply (x : Vec Ideal S256x4096 .f32) (w : Vec Ideal S1x4096 .f32) (j : S256x4096.Idx) :
    k0_pay1 x w j = norm1 (x j) (fun k => x (ix2 (j 0) k)) (w (ix2 0 (j 1))) := by
  pointwise [k0_pay1, norm1]

/-- The body's scalar projections at an index. -/
theorem pay2_apply (x : Vec Ideal S256x4096 .f32) (w : Vec Ideal S1x4096 .f32) (s : Vec Ideal S1x128x4096 .f32) (j : S256x128.Idx) :
    k0_pay2 x w s j = ∑ k : Fin 4096, norm1 (x (ix2 (j 0) k)) (fun k => x (ix2 (j 0) k)) (w (ix2 0 k)) * s (ix3 0 (j 1) k) := by
  pointwise [k0_pay2, k0_pay1, norm1]

/-- The reference's normalized array at an index. -/
theorem ref14_apply (x : FVec Ideal S8192x4096 .f32) (w : FVec Ideal S2x4096 .f32) (i : S8192x4096.Idx) :
    Cert.Reference7Ideal.Read.val_main_v14 (F := Ideal) x w i = norm1 (x i) (fun k => x (ix2 (i 0) k)) (w (ix2 1 (i 1))) := by
  pointwise [Cert.Reference7Ideal.Read.val_main_v14, Cert.Reference7Ideal.Read.val_main_v13, Cert.Reference7Ideal.Read.val_main_v12,
    Cert.Reference7Ideal.Read.val_main_v11, Cert.Reference7Ideal.Read.val_main_v10, Cert.Reference7Ideal.Read.val_main_v9,
    Cert.Reference7Ideal.Read.val_main_v8, Cert.Reference7Ideal.Read.val_main_v7,
    Cert.Reference7Ideal.Read.val_main_v6, Cert.Reference7Ideal.Read.val_main_v5, Cert.Reference7Ideal.Read.val_main_v4,
    Cert.Reference7Ideal.Read.val_main_v3, Cert.Reference7Ideal.Read.val_main_v2, Cert.Reference7Ideal.Read.val_main_v1,
    Cert.Reference7Ideal.Read.val_main_v0, Cert.Reference7Ideal.Read.val_main_cst, Cert.Reference7Ideal.Read.val_main_cst_0,
    Cert.Reference7Ideal.Read.val_main_cst_1, norm1]

/-- The reference's rounded normalized array is the normalized array. -/
theorem ref21_apply (x : FVec Ideal S8192x4096 .f32) (w : FVec Ideal S2x4096 .f32) (i : S8192x4096.Idx) :
    Cert.Reference7Ideal.Read.val_main_v21 (F := Ideal) x w i = norm1 (x i) (fun k => x (ix2 (i 0) k)) (w (ix2 1 (i 1))) :=
  ref14_apply x w i

/-- The weight of scalar column `r`: 16 columns from 8192, 48 from 13328, then zeros. -/
def wcol (w : FVec Ideal S2x4096x13376 .f32) (r : Nat) (k : Fin 4096) : EReal :=
  if h : r < 16 then w (ix3 1 k ⟨8192 + r, by omega⟩) else if h : r < 64 then w (ix3 1 k ⟨13328 + (r - 16), by omega⟩) else 0

/-- The reference's padded scalar projections at an index. -/
theorem ref22_apply (x : FVec Ideal S8192x4096 .f32) (w : FVec Ideal S2x4096 .f32) (p : FVec Ideal S2x4096x13376 .f32) (i : S8192x128.Idx) :
    Cert.Reference7Ideal.Read.val_main_v22 (F := Ideal) x w p i
      = ∑ k : Fin 4096, norm1 (x (ix2 (i 0) k)) (fun k => x (ix2 (i 0) k)) (w (ix2 1 k)) * wcol p (i 1).val k := by
  have hn := fun k => ref14_apply x w (ix2 (i 0) k)
  unfold Cert.Reference7Ideal.Read.val_main_v22 Cert.Reference7Ideal.Read.val_main_v20
   Cert.Reference7Ideal.Read.val_main_v19  Cert.Reference7Ideal.Read.val_main_v18  Cert.Reference7Ideal.Read.val_main_v17
   Cert.Reference7Ideal.Read.val_main_v16 Cert.Reference7Ideal.Read.val_main_v15 Cert.Reference7Ideal.Read.val_main_call0_v0 Cert.Reference7Ideal.Read.val_main_c
  generalize Cert.Reference7Ideal.Read.val_main_v14 (F := Ideal) x w = y at hn
  pointwise [wcol]
  have hz0 : (FloatOps.sitofp (F := Ideal) FTy.f32 0#32 : EReal) = 0 := by
    show (((0#32 : BitVec 32).toInt : ℝ) : EReal) = 0
    simp
  have h1 : ∀ k : Fin 4096, y (ix2 (i 0) k) = norm1 (x (ix2 (i 0) k)) (fun k => x (ix2 (i 0) k)) (w (ix2 1 k)) := hn
  by_cases ha : (i 1).val < 16
  · have hb : (i 1).val < 64 := by omega
    simp only [dif_pos ha, dif_pos hb, h1]
  · by_cases hb : (i 1).val < 64
    · simp only [dif_neg ha, dif_pos hb, h1]
    · simp only [dif_neg ha, dif_neg hb, hz0, mul_zero, Finset.sum_const_zero]

/-- The padded weight as the launch finds it. -/
abbrev Wp (c : Dev nD) : FVec Ideal S2x128x4096 .f32 := pad S2x128x4096 ![0, 0, 0] ![0, 64, 0] ![0, 0, 0]
  (concatenate S2x64x4096 1 [⟨S2x16x4096, extractStridedSlice S2x16x4096 ![0, 8192, 0] (transpose S2x13376x4096 [0, 2, 1] (m ((c : Thread nD τ).loc main_arg2)) transposes_S2x4096x13376_S2x13376x4096_0_2_1) slices_S2x13376x4096_S2x16x4096_0_8192_0⟩,
    ⟨S2x48x4096, extractStridedSlice S2x48x4096 ![0, 13328, 0] (transpose S2x13376x4096 [0, 2, 1] (m ((c : Thread nD τ).loc main_arg2)) transposes_S2x4096x13376_S2x13376x4096_0_2_1) slices_S2x13376x4096_S2x48x4096_0_13328_0⟩]
    concatenates_S2x16x4096_S2x48x4096_S2x64x4096_d1) (sitofp (F := Ideal) .f32 (constantI S_ 32 0#32)) pads_S2x64x4096_S2x128x4096_000_0640_000 h_S_

/-- The padded weight at an index of the second layer. -/
theorem wp_apply (c : Dev nD) (r : Fin 128) (k : Fin 4096) : Wp m c (ix3 1 r k) = wcol (m ((c : Thread nD τ).loc main_arg2)) r.val k := by
  unfold Wp
  generalize (m ((c : Thread nD τ).loc main_arg2) : FVec Ideal S2x4096x13376 .f32) = p
  have hz0 : (FloatOps.sitofp (F := Ideal) FTy.f32 0#32 : EReal) = 0 := by
    show (((0#32 : BitVec 32).toInt : ℝ) : EReal) = 0
    simp
  pointwise [wcol]
  by_cases ha : r.val < 16
  · have hb : r.val < 64 := by omega
    simp only [dif_pos ha, dif_pos hb]
  · by_cases hb : r.val < 64
    · simp only [dif_neg ha, dif_pos hb]
    · simp only [dif_neg ha, dif_neg hb, hz0]

/-- The window of the scalar columns finds the padded weight. -/
theorem V_main_v4 (c : Dev nD) : V m c main_v4 = Wp m c := by
  simp only [V, hostOps0, hostOps0_1, hostOps0_2, List.flatten_cons, List.flatten_nil, List.append_nil, List.cons_append, List.nil_append]
  after_results
  rfl

/-- The second layer's norm weight as one row. -/
abbrev Nw (c : Dev nD) : FVec Ideal S1x4096 .f32 := shapeCast S1x4096 (shapeCast S4096 (extractStridedSlice S1x4096 ![1, 0]
  (m ((c : Thread nD τ).loc main_arg1)) slices_S2x4096_S1x4096_1_0) shapeCasts_S1x4096_S4096) shapeCasts_S4096_S1x4096

/-- The window of the norm weight finds it. -/
theorem V_main_v7 (c : Dev nD) : V m c main_v7 = Nw m c := by
  simp only [V, hostOps0, hostOps0_1, hostOps0_2, List.flatten_cons, List.flatten_nil, List.append_nil, List.cons_append, List.nil_append]
  after_results
  rfl

/-- The norm weight's row at an index. -/
theorem nw_apply (c : Dev nD) (k : Fin 4096) : Nw m c (ix2 0 k) = m ((c : Thread nD τ).loc main_arg1) (ix2 1 k) := by
  unfold Nw
  generalize (m ((c : Thread nD τ).loc main_arg1) : FVec Ideal S2x4096 .f32) = p
  pointwise

/-- The first result: the reference's rounded normalized array at this program's arguments. -/
abbrev G (c : Dev nD) : Buf (Elt Ideal) ((c : Thread nD τ).loc main_v8_0) :=
  Cert.Reference7Ideal.Read.val_main_v21 (F := Ideal) (m ((c : Thread nD τ).loc main_arg0)) (m ((c : Thread nD τ).loc main_arg1))

/-- The second result: the reference's padded scalar projections. -/
abbrev H (c : Dev nD) : Buf (Elt Ideal) ((c : Thread nD τ).loc main_v8_1) :=
  Cert.Reference7Ideal.Read.val_main_v22 (F := Ideal) (m ((c : Thread nD τ).loc main_arg0)) (m ((c : Thread nD τ).loc main_arg1))
    (m ((c : Thread nD τ).loc main_arg2))

/-- The grid's index maps. -/
theorem idx_facts : ∀ t : Fin cfg0.N, (win0_0.index t 0 = t.val ∧ win0_0.index t 1 = 0)
    ∧ (win0_1.index t 0 = 0 ∧ win0_1.index t 1 = 0) ∧ (win0_2.index t 0 = 1 ∧ win0_2.index t 1 = 0 ∧ win0_2.index t 2 = 0)
    ∧ (win0_3.index t 0 = t.val ∧ win0_3.index t 1 = 0) ∧ win0_4.index t 0 = t.val ∧ win0_4.index t 1 = 0 :=
  (by decide +kernel : ∀ t : Fin grid0.N, _)

/-- A point's block of `x`, row `p`, is row `256·t + p` of the array. -/
theorem blk_x (c : Dev nD) (t : Fin cfg0.N) (p : Fin 256) (k : Fin 4096) (r : Fin 8192) (hr : r.val = t.val * 256 + p.val) :
    iblk m c 0 t (ix2 p k) = m ((c : Thread nD τ).loc main_arg0) (ix2 r k) := by
  obtain ⟨⟨h00, h01⟩, -⟩ := idx_facts t
  show V m c main_arg0 _ = _
  rw [V_main_arg0]
  refine congrArg (m ((c : Thread nD τ).loc main_arg0)) (funext fun a => Fin.ext ?_)
  match a with
  | ⟨0, _⟩ => show win0_0.index t 0 * 256 + 1 * p.val = r.val; rw [h00, hr]; omega
  | ⟨1, _⟩ => show win0_0.index t 1 * 4096 + 1 * k.val = k.val; rw [h01]; omega

/-- A point's block of the norm weight is the whole row. -/
theorem blk_w (c : Dev nD) (t : Fin cfg0.N) (k : Fin 4096) : iblk m c 1 t (ix2 0 k) = m ((c : Thread nD τ).loc main_arg1) (ix2 1 k) := by
  obtain ⟨-, ⟨h10, h11⟩, -⟩ := idx_facts t
  refine Eq.trans ?_ (nw_apply m c k)
  show V m c main_v7 _ = _
  rw [V_main_v7]
  refine congrArg (Nw m c) (funext fun a => Fin.ext ?_)
  match a with
  | ⟨0, _⟩ => show win0_1.index t 0 * 1 + 1 * 0 = 0; rw [h10]
  | ⟨1, _⟩ => show win0_1.index t 1 * 4096 + 1 * k.val = k.val; rw [h11]; omega

/-- A point's block of the scalar columns is the second layer's. -/
theorem blk_s (c : Dev nD) (t : Fin cfg0.N) (r : Fin 128) (k : Fin 4096) :
    iblk m c 2 t (ix3 0 r k) = wcol (m ((c : Thread nD τ).loc main_arg2)) r.val k := by
  obtain ⟨-, -, ⟨h20, h21, h22⟩, -⟩ := idx_facts t
  refine Eq.trans ?_ (wp_apply m c r k)
  show V m c main_v4 _ = _
  rw [V_main_v4]
  refine congrArg (Wp m c) (funext fun a => Fin.ext ?_)
  match a with
  | ⟨0, _⟩ => show win0_2.index t 0 * 1 + 1 * 0 = 1; rw [h20]
  | ⟨1, _⟩ => show win0_2.index t 1 * 128 + 1 * r.val = r.val; rw [h21]; omega
  | ⟨2, _⟩ => show win0_2.index t 2 * 4096 + 1 * k.val = k.val; rw [h22]; omega

/-- What point `t` writes back of the normalized rows is its block of the reference's. -/
theorem flushed_eq3 (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero (S := S256x4096) hz, View.ld_unit_zero (S := S1x4096) hz]
  funext (j : S256x4096.Idx)
  obtain ⟨-, -, -, ⟨h30, h31⟩, -⟩ := idx_facts t
  show k0_pay1 (iblk m c 0 t) (iblk m c 1 t) j = G m c (((cfg0.win 3).blk t).view.emb j)
  refine (pay1_apply _ _ j).trans (Eq.trans ?_ (ref21_apply _ _ _).symm)
  have hr : (((cfg0.win 3).blk t).view.emb j 0).val = t.val * 256 + (j 0).val := by
    show win0_3.index t 0 * 256 + 1 * (j 0).val = _
    rw [h30]; omega
  have hc : (((cfg0.win 3).blk t).view.emb j 1) = j 1 := Fin.ext (by
    show win0_3.index t 1 * 4096 + 1 * (j 1).val = _
    rw [h31]; omega)
  have e0 : iblk m c 0 t j = m ((c : Thread nD τ).loc main_arg0) (((cfg0.win 3).blk t).view.emb j) := by
    have := blk_x m c t (j 0) (j 1) (((cfg0.win 3).blk t).view.emb j 0) hr
    rw [ix2_eta, ← hc, ix2_eta] at this
    exact this
  have e1 : iblk m c 1 t (ix2 0 (j 1)) = m ((c : Thread nD τ).loc main_arg1) (ix2 1 (((cfg0.win 3).blk t).view.emb j 1)) := by
    rw [hc]; exact blk_w m c t (j 1)
  exact congr (congr (congrArg norm1 e0) (funext fun k => blk_x m c t (j 0) k _ hr)) e1

/-- What point `t` writes back of the scalar projections is its block of the reference's. -/
theorem flushed_eq4 (c : Dev nD) (t : Fin cfg0.N) :
    (dats m 0 c).flushed 4 t = ((cfg0.win 4).blk t).view.read (Elt Ideal) (H m c) := by
  rw [Value.flushed4]
  unfold out0_4
  rw [View.canon_unit_zero hz, View.ld_unit_zero (S := S256x4096) hz, View.ld_unit_zero (S := S1x4096) hz, View.ld_unit_zero (S := S1x128x4096) hz3]
  funext (j : S256x128.Idx)
  obtain ⟨-, -, -, -, h40, h41⟩ := idx_facts t
  show k0_pay2 (iblk m c 0 t) (iblk m c 1 t) (iblk m c 2 t) j = H m c (((cfg0.win 4).blk t).view.emb j)
  refine (pay2_apply _ _ _ j).trans (Eq.trans ?_ (ref22_apply _ _ _ _).symm)
  have hr : (((cfg0.win 4).blk t).view.emb j 0).val = t.val * 256 + (j 0).val := by
    show win0_4.index t 0 * 256 + 1 * (j 0).val = _
    rw [h40]; omega
  have hc : (((cfg0.win 4).blk t).view.emb j 1).val = (j 1).val := by
    show win0_4.index t 1 * 128 + 1 * (j 1).val = _
    rw [h41]; omega
  refine Finset.sum_congr rfl fun k _ => congrArg₂ (· * ·) ?_ ?_
  · exact congr (congr (congrArg norm1 (blk_x m c t (j 0) k _ hr)) (funext fun k => blk_x m c t (j 0) k _ hr)) (blk_w m c t k)
  · rw [hc]; exact blk_s m c t (j 1) k

/-- The normalized array's blocks tile it. -/
theorem cover3 (i : S8192x4096.Idx) :
    ∃ t : Fin cfg0.N, (cfg0.win 3).flush t = true ∧ i ∈ ((cfg0.win 3).blk t).view.set := by
  have h0 : (i 0 : Nat) < 8192 := (i 0).isLt
  have h1 : (i 1 : Nat) < 4096 := (i 1).isLt
  have hN : cfg0.N = 32 := N_0
  have ht : (i 0 : Nat) / 256 < cfg0.N := by omega
  refine ⟨⟨_, ht⟩, flush0_3 _, ?_⟩
  obtain ⟨-, -, -, ⟨h30, h31⟩, -⟩ := idx_facts ⟨_, ht⟩
  show i ∈ ((View.whole main_v8_0).slice (win0_3.rect ⟨_, ht⟩)).set
  rw [View.set_slice_whole, Rect.mem_set_unit]
  intro a
  match a with
  | ⟨0, _⟩ =>
    show win0_3.index ⟨_, ht⟩ 0 * 256 ≤ (i 0 : Nat) ∧ (i 0 : Nat) < win0_3.index ⟨_, ht⟩ 0 * 256 + 256
    rw [h30]; dsimp only; omega
  | ⟨1, _⟩ =>
    show win0_3.index ⟨_, ht⟩ 1 * 4096 ≤ (i 1 : Nat) ∧ (i 1 : Nat) < win0_3.index ⟨_, ht⟩ 1 * 4096 + 4096
    rw [h31]; dsimp only; omega

/-- The scalar projections' blocks tile their array. -/
theorem cover4 (i : S8192x128.Idx) :
    ∃ t : Fin cfg0.N, (cfg0.win 4).flush t = true ∧ i ∈ ((cfg0.win 4).blk t).view.set := by
  have h0 : (i 0 : Nat) < 8192 := (i 0).isLt
  have h1 : (i 1 : Nat) < 128 := (i 1).isLt
  have hN : cfg0.N = 32 := N_0
  have ht : (i 0 : Nat) / 256 < cfg0.N := by omega
  refine ⟨⟨_, ht⟩, flush0_4 _, ?_⟩
  obtain ⟨-, -, -, -, h40, h41⟩ := idx_facts ⟨_, ht⟩
  show i ∈ ((View.whole main_v8_1).slice (win0_4.rect ⟨_, ht⟩)).set
  rw [View.set_slice_whole, Rect.mem_set_unit]
  intro a
  match a with
  | ⟨0, _⟩ =>
    show win0_4.index ⟨_, ht⟩ 0 * 256 ≤ (i 0 : Nat) ∧ (i 0 : Nat) < win0_4.index ⟨_, ht⟩ 0 * 256 + 256
    rw [h40]; dsimp only; omega
  | ⟨1, _⟩ =>
    show win0_4.index ⟨_, ht⟩ 1 * 128 ≤ (i 1 : Nat) ∧ (i 1 : Nat) < win0_4.index ⟨_, ht⟩ 1 * 128 + 128
    rw [h41]; dsimp only; omega

/-- The two result arrays after the run. -/
theorem final3 (c : Dev nD) : (dats m 0 c).arrAt 3 cfg0.N = G m c :=
  (dats m 0 c).arrAt_eq_of_cover 3 (G m c) (fun t _ => flushed_eq3 m c t) cover3
theorem final4 (c : Dev nD) : (dats m 0 c).arrAt 4 cfg0.N = H m c :=
  (dats m 0 c).arrAt_eq_of_cover 4 (H m c) (fun t _ => flushed_eq4 m c t) cover4

end Cert.Kernel7Ideal.NormSmall

namespace Cert.Proof

/-- The kernel's two results are the reference's. -/
theorem algebraic7 : Cert.algebraic_Kernel7Ideal_Reference7Ideal := by
  intro m g m' g' _ h
  refine ⟨fun c => Cert.Kernel7Ideal.NormSmall.G m c, fun c => Cert.Kernel7Ideal.NormSmall.H m c, ?_, ?_⟩
  · exact (θ_run Cert.Kernel7Ideal.defs _ _).mono (fun r hr c => ⟨(hr c).1.trans (Cert.Kernel7Ideal.NormSmall.final3 m c),
      (hr c).2.1.trans (Cert.Kernel7Ideal.NormSmall.final4 m c), (hr c).2.2⟩) (Cert.Kernel7Ideal.Value.run_blocks (F := Ideal) m g)
  · refine (θ_run Cert.Reference7Ideal.defs _ _).mono (fun r hr c => ⟨(hr c).1.trans ?_, (hr c).2.1.trans ?_, (hr c).2.2⟩)
      (Cert.Reference7Ideal.Value.run (F := Ideal) m' g')
    · obtain ⟨e0, e1, -⟩ := h c
      rw [e0, e1]
      exact Cert.Reference7Ideal.Read.val_main_v21_eq _ _
    · obtain ⟨e0, e1, e2⟩ := h c
      rw [e0, e1, e2]
      exact Cert.Reference7Ideal.Read.val_main_v22_eq _ _ _

end Cert.Proof

end
-- ==== Proof.Compress.lean ====
/-
  THE COMPRESSION OF NSA'S KEYS AND VALUES (`Kernel8Ideal`): a point takes the 2048 rows of one batch element and head, laid out as
  128 runs of 16 rows, multiplies each run by the two halves of the first weight and adds the second product of the run after it,
  applies the tanh form of `gelu` and multiplies by the second weight. The reference gathers the 127 overlapping blocks of 32 rows
  and multiplies each by the whole weight. Row 127 of a result is no block: the kernel wraps around there.
-/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.Value
public import Idealize.ShloMosaic.Lib.Pointwise
public import Idealize.ShloMosaic.Lib.KernelVsHost
public import Idealize.ShloMosaic.Lib.Tactic
public import Idealize.ShloMosaic.Lib.Quiescent

@[expose] public section

noncomputable section

open Idealize.ShloMosaic Idealize.ShloMosaic.TcCoe Idealize.SL.Sem
open Idealize.ShloMosaic.Pipeline (Dat)

namespace Cert.Kernel8Ideal.Compress

open Cert.Kernel8Ideal Cert.Kernel8Ideal.Gen

variable (m : (ℓ : Loc nD τ sig) → Buf (Elt Ideal) ℓ) (ρ : Dev nD → PrngReg)

theorem hz : (![0, 0] : Fin 2 → Nat) = fun _ => 0 := funext fun a => by fin_cases a <;> rfl
theorem hz3 : (![0, 0, 0] : Fin 3 → Nat) = fun _ => 0 := funext fun a => by fin_cases a <;> rfl

/-- The tanh form of `gelu` of an extended real. -/
def gelu (h : EReal) : EReal :=
  h * (Ideal.ofBits .f32 0x3F000000#32 * (1 + Ideal.tanh (Ideal.ofBits .f32 0x3F4C422A#32 * (h + Ideal.ofBits .f32 0x3D372713#32 * (h * h * h)))))

/-- The row after row `r`, around the end. -/
abbrev nxt (r : Fin 128) : Fin 128 := ⟨(r.val + 128 - 127) % 128, Nat.mod_lt _ (by decide)⟩

/-- A point's hidden value: run `r` by the first half of the weight, and the run after it by the second. -/
def hid (x : Vec Ideal S1x128x2048 .f32) (p : Vec Ideal S1x2048 .f32) (w : Vec Ideal S2048x256 .f32) (q : Vec Ideal S1x2048 .f32)
    (v : Vec Ideal S2048x256 .f32) (r : Fin 128) (d : Fin 256) : EReal :=
  (∑ k : Fin 2048, (x (ix3 0 r k) + p (ix2 0 k)) * w (ix2 k d)) + ∑ k : Fin 2048, (x (ix3 0 (nxt r) k) + q (ix2 0 k)) * v (ix2 k d)

/-- The body's stored block at an index. -/
theorem pay_apply (x : Vec Ideal S1x128x2048 .f32) (p : Vec Ideal S1x2048 .f32) (w : Vec Ideal S2048x256 .f32) (q : Vec Ideal S1x2048 .f32)
    (v : Vec Ideal S2048x256 .f32) (u : Vec Ideal S256x128 .f32) (j : S1x128x128.Idx) :
    k0_pay4 (k0_pay2 x p w q v) (k0_pay3 u) j = ∑ d : Fin 256, gelu (hid x p w q v (j 1) d) * u (ix2 d (j 2)) := by
  pointwise [k0_pay4, k0_pay2, k0_pay3]
  refine Finset.sum_congr rfl fun d _ => congrArg (· * u (ix2 d (j 2))) ?_
  show Ideal.ofBits FTy.f32 0x3F000000#32 * hid x p w q v (j 1) d * _ = _
  rw [mul_comm (Ideal.ofBits FTy.f32 0x3F000000#32), mul_assoc]
  rfl

/-- The second result's block is the same function of its operands. -/
theorem pay_eq (x : Vec Ideal S1x128x2048 .f32) (p : Vec Ideal S1x2048 .f32) (w : Vec Ideal S2048x256 .f32) (q : Vec Ideal S1x2048 .f32)
    (v : Vec Ideal S2048x256 .f32) (u : Vec Ideal S256x128 .f32) :
    k0_pay1 (k0_pay6 x p w q v) (k0_pay7 x p w q v) (k0_pay8 (F := Ideal)) u = k0_pay4 (k0_pay2 x p w q v) (k0_pay3 u) := rfl

/-- The row of the start array that block `n` takes as its row `l`. -/
theorem start_apply (n : Fin 127) (l : Fin 32) :
    (Cert.Reference8Ideal.Read.val_main_v21 (F := Ideal) (ix3 n l 0)).toInt.toNat = 16 * n.val + l.val := by
  have h : ∀ (n : Fin 127) (l : Fin 32),
      (Scalar.select (IntOp.cmpi CmpIPredicate.slt (IntOp.addi (IntOp.muli (BitVec.ofNat 32 n.val) 16#32) (BitVec.ofNat 32 l.val)) 0#32)
        (IntOp.addi (IntOp.addi (IntOp.muli (BitVec.ofNat 32 n.val) 16#32) (BitVec.ofNat 32 l.val)) 2048#32)
        (IntOp.addi (IntOp.muli (BitVec.ofNat 32 n.val) 16#32) (BitVec.ofNat 32 l.val))).toInt.toNat = 16 * n.val + l.val := by decide +kernel
  rw [Cert.Reference8Ideal.Read.val_main_v21_apply, Cert.Reference8Ideal.Read.val_main_v20_apply, Cert.Reference8Ideal.Read.val_main_v17_apply,
    Cert.Reference8Ideal.Read.val_main_v19_apply, Cert.Reference8Ideal.Read.val_main_v8_apply, Cert.Reference8Ideal.Read.val_main_v6_apply,
    Cert.Reference8Ideal.Read.val_main_v3_apply, Cert.Reference8Ideal.Read.val_main_v2_apply, Cert.Reference8Ideal.Read.val_main_v0_apply,
    Cert.Reference8Ideal.Read.val_main_v1_apply, Cert.Reference8Ideal.Read.val_main_v7_apply, Cert.Reference8Ideal.Read.val_main_v5_apply,
    Cert.Reference8Ideal.Read.val_main_v4_apply, Cert.Reference8Ideal.Read.val_main_v16_apply, Cert.Reference8Ideal.Read.val_main_v18_apply,
    Cert.Reference8Ideal.Read.val_main_c_apply, Cert.Reference8Ideal.Read.val_main_c_0_apply, Cert.Reference8Ideal.Read.val_main_c_1_apply]
  exact h n l

/-- A gather of one row per start index, read at an index. -/
theorem gather_apply (x : FVec Ideal Cert.Reference8Ideal.S4x4x2048x128 .f32) (idx : IVec Cert.Reference8Ideal.S127x32x1 32)
    (y : Cert.Reference8Ideal.S4x4x127x32x128.Idx) :
    Host.gather Cert.Reference8Ideal.gather_S4x4x2048x128_S127x32x1_S4x4x127x32x128_014_2_n_n_2_2_441128 x idx y
      = x (ix4 (y 0) (y 1) ⟨min (idx (ix3 (n0 := 127) (n1 := 32) (n2 := 1) (y 2) (y 3) 0)).toInt.toNat 2047, by omega⟩ (y 4)) := by
  unfold Host.gather
  congr 1
  funext a
  refine Fin.ext ?_
  generalize hd : Cert.Reference8Ideal.gather_S4x4x2048x128_S127x32x1_S4x4x127x32x128_014_2_n_n_2_2_441128 = D
  match a with
  | ⟨0, _⟩ =>
    show D.start y idx 0 + D.batchCoord y 0 + D.offCoord y 0 = (y 0).val
    subst hd
    rw [GatherDims.batchCoord_eq_zero _ _ _ List.not_mem_nil]
    unfold GatherDims.start
    rw [dif_neg (by decide)]
    show 0 + 0 + (y 0).val = (y 0).val
    omega
  | ⟨1, _⟩ =>
    show D.start y idx 1 + D.batchCoord y 1 + D.offCoord y 1 = (y 1).val
    subst hd
    rw [GatherDims.batchCoord_eq_zero _ _ _ List.not_mem_nil]
    unfold GatherDims.start
    rw [dif_neg (by decide)]
    show 0 + 0 + (y 1).val = (y 1).val
    omega
  | ⟨2, _⟩ =>
    show D.start y idx 2 + D.batchCoord y 2 + D.offCoord y 2 = min (idx (ix3 (y 2) (y 3) 0)).toInt.toNat 2047
    subst hd
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (2 : Fin 4) ∈ Cert.Reference8Ideal.gather_S4x4x2048x128_S127x32x1_S4x4x127x32x128_014_2_n_n_2_2_441128.startIndexMap from List.mem_singleton.mpr rfl)]
    have hsi : Cert.Reference8Ideal.gather_S4x4x2048x128_S127x32x1_S4x4x127x32x128_014_2_n_n_2_2_441128.siIdx y
        ⟨List.idxOf (2 : Fin 4) Cert.Reference8Ideal.gather_S4x4x2048x128_S127x32x1_S4x4x127x32x128_014_2_n_n_2_2_441128.startIndexMap,
          List.idxOf_lt_length_iff.2 (List.mem_singleton.mpr rfl)⟩ = ix3 (y 2) (y 3) 0 := by
      funext b
      refine Fin.ext ?_
      match b with
      | ⟨0, _⟩ => rfl
      | ⟨1, _⟩ => rfl
      | ⟨2, _⟩ => rfl
    exact congrArg (fun z => min (idx z).toInt.toNat 2047) hsi
  | ⟨3, _⟩ =>
    show D.start y idx 3 + D.batchCoord y 3 + D.offCoord y 3 = (y 4).val
    subst hd
    rw [GatherDims.batchCoord_eq_zero _ _ _ List.not_mem_nil]
    unfold GatherDims.start
    rw [dif_neg (by decide)]
    show 0 + 0 + (y 4).val = (y 4).val
    omega

/-- The second result is the first's function of the other operands. -/
theorem ref_eq (x : FVec Ideal Cert.Reference8Ideal.S4x4x128x2048 .f32) (p : FVec Ideal Cert.Reference8Ideal.S2x32x128 .f32)
    (w : FVec Ideal Cert.Reference8Ideal.S2x4096x256 .f32) (u : FVec Ideal Cert.Reference8Ideal.S2x256x128 .f32) :
    Cert.Reference8Ideal.Read.val_main_v78 (F := Ideal) x p w u = Cert.Reference8Ideal.Read.val_main_v43 (F := Ideal) x p w u := rfl

/-- The batch element and the head of row `g` of a result, and column `k` of the positions of rows `l0 … l0 + 15` of a block. -/
abbrev bt (g : Fin 16) : Fin 4 := ⟨g.val / 4, by omega⟩
abbrev hd (g : Fin 16) : Fin 4 := ⟨g.val % 4, by omega⟩

/-- A result's element: `gelu` of the two products of neighbouring runs, by the second weight. -/
def res (x : FVec Ideal S4x4x128x2048 .f32) (p : FVec Ideal S2x32x128 .f32) (w : FVec Ideal S2x4096x256 .f32) (u : FVec Ideal S2x256x128 .f32)
    (i : S16x128x128.Idx) : EReal :=
  ∑ d : Fin 256, gelu ((∑ k : Fin 2048, (x (ix4 (bt (i 0)) (hd (i 0)) (i 1) k) + p (ix3 1 ⟨k.val / 128, by omega⟩ ⟨k.val % 128, by omega⟩))
      * w (ix3 1 ⟨k.val, by omega⟩ d))
    + ∑ k : Fin 2048, (x (ix4 (bt (i 0)) (hd (i 0)) (nxt (i 1)) k) + p (ix3 1 ⟨16 + k.val / 128, by omega⟩ ⟨k.val % 128, by omega⟩))
      * w (ix3 1 ⟨2048 + k.val, by omega⟩ d)) * u (ix3 1 d (i 2))

/-- The reference's hidden value before `gelu`, with the sum over a block's 4096 entries split at its sixteenth row. -/
theorem ref_hid (x : FVec Ideal S4x4x128x2048 .f32) (p : FVec Ideal S2x32x128 .f32) (w : FVec Ideal S2x4096x256 .f32)
    (y : Cert.Reference8Ideal.S4x4x127x256.Idx) (r s : Fin 128) (hr : r.val = (y 2).val) (hs : s.val = (y 2).val + 1) :
    Cert.Reference8Ideal.Read.val_main_v27 (F := Ideal) x p w y
      = (∑ k : Fin 2048, (x (ix4 (y 0) (y 1) r k) + p (ix3 1 ⟨k.val / 128, by omega⟩ ⟨k.val % 128, by omega⟩)) * w (ix3 1 ⟨k.val, by omega⟩ (y 3)))
        + ∑ k : Fin 2048, (x (ix4 (y 0) (y 1) s k) + p (ix3 1 ⟨16 + k.val / 128, by omega⟩ ⟨k.val % 128, by omega⟩)) * w (ix3 1 ⟨2048 + k.val, by omega⟩ (y 3)) := by
  have hy0 : (y 0).val < 4 := (y 0).isLt
  have hy1 : (y 1).val < 4 := (y 1).isLt
  have hy2 : (y 2).val < 127 := (y 2).isLt
  have hw : ∀ k : Fin 4096, Cert.Reference8Ideal.Read.val_main_v12 (F := Ideal) w (Cert.Reference8Ideal.Read.ridx_main_v27 y k) = w (ix3 1 k (y 3)) := by
    intro k
    rw [Cert.Reference8Ideal.Read.val_main_v12_apply, Cert.Reference8Ideal.Read.val_main_v11_apply]
    refine congrArg w (funext fun a => Fin.ext ?_)
    have hy3 : (y 3).val < 256 := (y 3).isLt
    match a with
    | ⟨0, _⟩ => rfl
    | ⟨1, _⟩ => show (k.val * 256 + (y 3).val) / 256 % 4096 = k.val; omega
    | ⟨2, _⟩ => show (k.val * 256 + (y 3).val) % 256 = (y 3).val; omega
  have hx : ∀ (k : Fin 4096) (q : Fin 128) (e : Fin 2048) (a : Fin 32) (b : Fin 128), q.val * 2048 + e.val = 2048 * (y 2).val + k.val
      → a.val = k.val / 128 → b.val = k.val % 128 →
      Cert.Reference8Ideal.Read.val_main_v26 (F := Ideal) x p (Cert.Reference8Ideal.Read.lidx_main_v27 y k)
        = x (ix4 (y 0) (y 1) q e) + p (ix3 1 a b) := by
    intro k q e a b hq ha hb
    have hz : Cert.Reference8Ideal.Read.idx_main_v26 (Cert.Reference8Ideal.Read.lidx_main_v27 y k) = ix5 (n0 := 4) (n1 := 4) (n2 := 127) (n3 := 32) (n4 := 128) (y 0) (y 1) (y 2) a b := by
      funext c
      refine Fin.ext ?_
      match c with
      | ⟨0, _⟩ => show ((((y 0).val * 4 + (y 1).val) * 127 + (y 2).val) * 4096 + k.val) / 2080768 = (y 0).val; omega
      | ⟨1, _⟩ => show ((((y 0).val * 4 + (y 1).val) * 127 + (y 2).val) * 4096 + k.val) / 520192 % 4 = (y 1).val; omega
      | ⟨2, _⟩ => show ((((y 0).val * 4 + (y 1).val) * 127 + (y 2).val) * 4096 + k.val) / 4096 % 127 = (y 2).val; omega
      | ⟨3, _⟩ => show ((((y 0).val * 4 + (y 1).val) * 127 + (y 2).val) * 4096 + k.val) / 128 % 32 = a.val; omega
      | ⟨4, _⟩ => show ((((y 0).val * 4 + (y 1).val) * 127 + (y 2).val) * 4096 + k.val) % 128 = b.val; omega
    rw [Cert.Reference8Ideal.Read.val_main_v26_apply, hz, Cert.Reference8Ideal.Read.val_main_v25_apply]
    refine congrArg₂ (· + ·) ?_ ?_
    · unfold Cert.Reference8Ideal.Read.val_main_v22
      rw [gather_apply, Cert.Reference8Ideal.Read.val_main_v15_apply]
      refine congrArg x (funext fun c => Fin.ext ?_)
      have hst : min (Cert.Reference8Ideal.Read.val_main_v21 (F := Ideal) (ix3 (y 2) a 0)).toInt.toNat 2047 = 16 * (y 2).val + a.val := by
        rw [start_apply (y 2) a]; omega
      match c with
      | ⟨0, _⟩ =>
        show ((((y 0).val * 4 + (y 1).val) * 2048 + min (Cert.Reference8Ideal.Read.val_main_v21 (F := Ideal) (ix3 (y 2) a 0)).toInt.toNat 2047) * 128 + b.val) / 1048576 = (y 0).val
        rw [hst]; omega
      | ⟨1, _⟩ =>
        show ((((y 0).val * 4 + (y 1).val) * 2048 + min (Cert.Reference8Ideal.Read.val_main_v21 (F := Ideal) (ix3 (y 2) a 0)).toInt.toNat 2047) * 128 + b.val) / 262144 % 4 = (y 1).val
        rw [hst]; omega
      | ⟨2, _⟩ =>
        show ((((y 0).val * 4 + (y 1).val) * 2048 + min (Cert.Reference8Ideal.Read.val_main_v21 (F := Ideal) (ix3 (y 2) a 0)).toInt.toNat 2047) * 128 + b.val) / 2048 % 128 = q.val
        rw [hst]; omega
      | ⟨3, _⟩ =>
        show ((((y 0).val * 4 + (y 1).val) * 2048 + min (Cert.Reference8Ideal.Read.val_main_v21 (F := Ideal) (ix3 (y 2) a 0)).toInt.toNat 2047) * 128 + b.val) % 2048 = e.val
        rw [hst]; omega
    · rw [Cert.Reference8Ideal.Read.val_main_v24_apply, Cert.Reference8Ideal.Read.val_main_v23_apply, Cert.Reference8Ideal.Read.val_main_v10_apply,
        Cert.Reference8Ideal.Read.val_main_v9_apply]
      refine congrArg p (funext fun c => Fin.ext ?_)
      match c with
      | ⟨0, _⟩ => rfl
      | ⟨1, _⟩ => show (a.val * 128 + b.val) / 128 % 32 = a.val; omega
      | ⟨2, _⟩ => show (a.val * 128 + b.val) % 128 = b.val; omega
  rw [Cert.Reference8Ideal.Read.val_main_v27_apply]
  refine (Fin.sum_univ_add (a := 2048) (b := 2048) _).trans (congrArg₂ (· + ·) (Finset.sum_congr rfl fun k _ => ?_) (Finset.sum_congr rfl fun k _ => ?_))
  · exact congrArg₂ (· * ·) (hx (Fin.castAdd 2048 k) r k ⟨k.val / 128, by omega⟩ ⟨k.val % 128, by omega⟩ (by show r.val * 2048 + k.val = 2048 * (y 2).val + k.val; omega) rfl rfl)
      (hw (Fin.castAdd 2048 k))
  · exact congrArg₂ (· * ·) (hx (Fin.natAdd 2048 k) s k ⟨16 + k.val / 128, by omega⟩ ⟨k.val % 128, by omega⟩ (by show s.val * 2048 + k.val = 2048 * (y 2).val + (2048 + k.val); omega)
      (by show 16 + k.val / 128 = (2048 + k.val) / 128; omega) (by show k.val % 128 = (2048 + k.val) % 128; omega))
      (hw (Fin.natAdd 2048 k))

/-- The reference's result at a row that is a block. -/
theorem ref_apply (x : FVec Ideal S4x4x128x2048 .f32) (p : FVec Ideal S2x32x128 .f32) (w : FVec Ideal S2x4096x256 .f32) (u : FVec Ideal S2x256x128 .f32)
    (i : S16x128x128.Idx) (hi : (i 1).val < 127) :
    Cert.Reference8Ideal.Read.val_main_v43 (F := Ideal) x p w u i = res x p w u i := by
  have h0 : (i 0).val < 16 := (i 0).isLt
  have h2 : (i 2).val < 128 := (i 2).isLt
  unfold Cert.Reference8Ideal.Read.val_main_v43
  refine (pad_apply_of_inside _ _ _ _ _ _ _ i (ix3 (n0 := 16) (n1 := 127) (n2 := 128) (i 0) ⟨(i 1).val, hi⟩ (i 2)) (fun a => by
    match a with
    | ⟨0, _⟩ => show (i 0).val = 0 + (i 0).val * (0 + 1); omega
    | ⟨1, _⟩ => show (i 1).val = 0 + (i 1).val * (0 + 1); omega
    | ⟨2, _⟩ => show (i 2).val = 0 + (i 2).val * (0 + 1); omega)).trans ?_
  have hz : Cert.Reference8Ideal.Read.idx_main_v42 (ix3 (n0 := 16) (n1 := 127) (n2 := 128) (i 0) ⟨(i 1).val, hi⟩ (i 2)) = ix4 (n0 := 4) (n1 := 4) (n2 := 127) (n3 := 128) (bt (i 0)) (hd (i 0)) ⟨(i 1).val, hi⟩ (i 2) := by
    funext c
    refine Fin.ext ?_
    match c with
    | ⟨0, _⟩ => show (((i 0).val * 127 + (i 1).val) * 128 + (i 2).val) / 65024 = (i 0).val / 4; omega
    | ⟨1, _⟩ => show (((i 0).val * 127 + (i 1).val) * 128 + (i 2).val) / 16256 % 4 = (i 0).val % 4; omega
    | ⟨2, _⟩ => show (((i 0).val * 127 + (i 1).val) * 128 + (i 2).val) / 128 % 127 = (i 1).val; omega
    | ⟨3, _⟩ => show (((i 0).val * 127 + (i 1).val) * 128 + (i 2).val) % 128 = (i 2).val; omega
  rw [Cert.Reference8Ideal.Read.val_main_v42_apply, hz, Cert.Reference8Ideal.Read.val_main_v41_apply]
  refine Finset.sum_congr rfl fun d _ => congrArg₂ (· * ·) ?_ ?_
  · refine Eq.trans ?_ (congrArg gelu (ref_hid x p w (ix4 (bt (i 0)) (hd (i 0)) ⟨(i 1).val, hi⟩ d) (i 1) (nxt (i 1)) rfl (by show ((i 1).val + 128 - 127) % 128 = (i 1).val + 1; omega)))
    rw [show Cert.Reference8Ideal.Read.lidx_main_v41 (ix4 (bt (i 0)) (hd (i 0)) ⟨(i 1).val, hi⟩ (i 2)) d = ix4 (bt (i 0)) (hd (i 0)) ⟨(i 1).val, hi⟩ d from
      funext fun c => Fin.ext (by match c with | ⟨0, _⟩ => rfl | ⟨1, _⟩ => rfl | ⟨2, _⟩ => rfl | ⟨3, _⟩ => rfl)]
    generalize ix4 (bt (i 0)) (hd (i 0)) (⟨(i 1).val, hi⟩ : Fin 127) d = y
    unfold Cert.Reference8Ideal.Read.val_main_v40 Cert.Reference8Ideal.Read.val_main_v39 Cert.Reference8Ideal.Read.val_main_v38
      Cert.Reference8Ideal.Read.val_main_v37 Cert.Reference8Ideal.Read.val_main_v36 Cert.Reference8Ideal.Read.val_main_v35
      Cert.Reference8Ideal.Read.val_main_v34 Cert.Reference8Ideal.Read.val_main_v33 Cert.Reference8Ideal.Read.val_main_v32
      Cert.Reference8Ideal.Read.val_main_v31 Cert.Reference8Ideal.Read.val_main_v30 Cert.Reference8Ideal.Read.val_main_v29
      Cert.Reference8Ideal.Read.val_main_v28 Cert.Reference8Ideal.Read.val_main_cst Cert.Reference8Ideal.Read.val_main_cst_2
      Cert.Reference8Ideal.Read.val_main_cst_3 Cert.Reference8Ideal.Read.val_main_cst_4
    generalize Cert.Reference8Ideal.Read.val_main_v27 (F := Ideal) x p w = h
    pointwise [gelu]
  · rw [Cert.Reference8Ideal.Read.val_main_v14_apply, Cert.Reference8Ideal.Read.val_main_v13_apply]
    refine congrArg u (funext fun c => Fin.ext ?_)
    match c with
    | ⟨0, _⟩ => rfl
    | ⟨1, _⟩ => show (d.val * 128 + (i 2).val) / 128 % 256 = d.val; omega
    | ⟨2, _⟩ => show (d.val * 128 + (i 2).val) % 128 = (i 2).val; omega

/-- What the body leaves in the results' buffers. -/
theorem out8 (x0 x1 : Vec Ideal S1x128x2048 .f32) (x2 : Vec Ideal S2x2048 .f32) (x3 : Vec Ideal S4096x256 .f32) (x4 : Vec Ideal S256x128 .f32)
    (x5 : Vec Ideal S2x2048 .f32) (x6 : Vec Ideal S4096x256 .f32) (x7 : Vec Ideal S256x128 .f32) :
    out0_8 x0 x1 x2 x3 x4 x5 x6 x7
      = k0_pay4 (k0_pay2 x0 (View.ld x2 r0_1) (View.ld x3 r0_2) (View.ld x2 r0_3) (View.ld x3 r0_4)) (k0_pay3 x4) := by
  unfold out0_8
  rw [View.canon_unit_zero hz3, View.ld_unit_zero (S := S1x128x2048) hz3, View.ld_unit_zero (S := S256x128) hz]
theorem out9 (x0 x1 : Vec Ideal S1x128x2048 .f32) (x2 : Vec Ideal S2x2048 .f32) (x3 : Vec Ideal S4096x256 .f32) (x4 : Vec Ideal S256x128 .f32)
    (x5 : Vec Ideal S2x2048 .f32) (x6 : Vec Ideal S4096x256 .f32) (x7 : Vec Ideal S256x128 .f32) :
    out0_9 x0 x1 x2 x3 x4 x5 x6 x7
      = k0_pay4 (k0_pay2 x1 (View.ld x5 r0_1) (View.ld x6 r0_2) (View.ld x5 r0_3) (View.ld x6 r0_4)) (k0_pay3 x7) := by
  unfold out0_9
  rw [View.canon_unit_zero hz3, View.ld_unit_zero (S := S1x128x2048) hz3, View.ld_unit_zero (S := S256x128) hz, pay_eq]

/-- A stored block from blocks of the arguments: row `g` of the result. -/
theorem block_apply (x : FVec Ideal S4x4x128x2048 .f32) (p : FVec Ideal S2x32x128 .f32) (w : FVec Ideal S2x4096x256 .f32) (u : FVec Ideal S2x256x128 .f32)
    (x0 : Vec Ideal S1x128x2048 .f32) (x2 : Vec Ideal S2x2048 .f32) (x3 : Vec Ideal S4096x256 .f32) (x4 : Vec Ideal S256x128 .f32) (g : Fin 16)
    (e0 : ∀ (r : Fin 128) (k : Fin 2048), x0 (ix3 0 r k) = x (ix4 (bt g) (hd g) r k))
    (e2 : ∀ (a : Fin 2) (k : Fin 2048), x2 (ix2 a k) = p (ix3 1 ⟨a.val * 16 + k.val / 128, by omega⟩ ⟨k.val % 128, by omega⟩))
    (e3 : ∀ (k : Fin 4096) (d : Fin 256), x3 (ix2 k d) = w (ix3 1 k d))
    (e4 : ∀ (d : Fin 256) (e : Fin 128), x4 (ix2 d e) = u (ix3 1 d e)) (j : S1x128x128.Idx) :
    k0_pay4 (k0_pay2 x0 (View.ld x2 r0_1) (View.ld x3 r0_2) (View.ld x2 r0_3) (View.ld x3 r0_4)) (k0_pay3 x4) j
      = res x p w u (ix3 g (j 1) (j 2)) := by
  refine (pay_apply _ _ _ _ _ _ j).trans (Finset.sum_congr rfl fun d _ => congrArg₂ (· * ·) (congrArg gelu ?_) (e4 d (j 2)))
  refine congrArg₂ (· + ·) (Finset.sum_congr rfl fun k _ => congrArg₂ (· * ·) (congrArg₂ (· + ·) (e0 _ k) ?_) ?_)
    (Finset.sum_congr rfl fun k _ => congrArg₂ (· * ·) (congrArg₂ (· + ·) (e0 _ k) ?_) ?_)
  · refine Eq.trans (congrArg x2 (funext fun a => Fin.ext ?_)) ((e2 0 k).trans (congrArg p (funext fun a => Fin.ext ?_)))
    · match a with
      | ⟨0, _⟩ => rfl
      | ⟨1, _⟩ => show 0 + 1 * k.val = k.val; omega
    · match a with
      | ⟨0, _⟩ => rfl
      | ⟨1, _⟩ => show 0 * 16 + k.val / 128 = k.val / 128; omega
      | ⟨2, _⟩ => rfl
  · refine Eq.trans (congrArg x3 (funext fun a => Fin.ext ?_)) (e3 ⟨k.val, by omega⟩ d)
    match a with
    | ⟨0, _⟩ => show 0 + 1 * k.val = k.val; omega
    | ⟨1, _⟩ => show 0 + 1 * d.val = d.val; omega
  · refine Eq.trans (congrArg x2 (funext fun a => Fin.ext ?_)) ((e2 1 k).trans (congrArg p (funext fun a => Fin.ext ?_)))
    · match a with
      | ⟨0, _⟩ => rfl
      | ⟨1, _⟩ => show 0 + 1 * k.val = k.val; omega
    · match a with
      | ⟨0, _⟩ => rfl
      | ⟨1, _⟩ => show 1 * 16 + k.val / 128 = 16 + k.val / 128; omega
      | ⟨2, _⟩ => rfl
  · refine Eq.trans (congrArg x3 (funext fun a => Fin.ext ?_)) (e3 ⟨2048 + k.val, by omega⟩ d)
    match a with
    | ⟨0, _⟩ => show 2048 + 1 * k.val = 2048 + k.val; omega
    | ⟨1, _⟩ => show 0 + 1 * d.val = d.val; omega

/-! The operands as laid out before the call, at an index. -/

theorem cast_x (x : FVec Ideal S4x4x128x2048 .f32) (g : Fin 16) (r : Fin 128) (k : Fin 2048) :
    shapeCast S16x128x2048 x shapeCasts_S4x4x128x2048_S16x128x2048 (ix3 g r k) = x (ix4 (bt g) (hd g) r k) :=
  shapeCast_apply _ _ _ _ (by
    rewrite [Shape.rowMajor_val_four, Shape.rowMajor_val_three]
    show ((g.val / 4 * 4 + g.val % 4) * 128 + r.val) * 2048 + k.val = (g.val * 128 + r.val) * 2048 + k.val
    omega)

theorem cast_p (p : FVec Ideal S2x32x128 .f32) (a : Fin 2) (k : Fin 2048) :
    shapeCast S2x2048 (shapeCast S32x128 (extractStridedSlice S1x32x128 ![1, 0, 0] p slices_S2x32x128_S1x32x128_1_0_0) shapeCasts_S1x32x128_S32x128)
      shapeCasts_S32x128_S2x2048 (ix2 a k) = p (ix3 1 ⟨a.val * 16 + k.val / 128, by omega⟩ ⟨k.val % 128, by omega⟩) := by
  rw [shapeCast_apply _ _ (ix2 a k) (ix2 (n0 := 32) (n1 := 128) ⟨a.val * 16 + k.val / 128, by omega⟩ ⟨k.val % 128, by omega⟩) (by
    rewrite [Shape.rowMajor_val_two, Shape.rowMajor_val_two]
    show (a.val * 16 + k.val / 128) * 128 + k.val % 128 = a.val * 2048 + k.val
    omega)]
  pointwise

theorem cast_w (w : FVec Ideal S2x4096x256 .f32) (k : Fin 4096) (d : Fin 256) :
    shapeCast S4096x256 (extractStridedSlice S1x4096x256 ![1, 0, 0] w slices_S2x4096x256_S1x4096x256_1_0_0) shapeCasts_S1x4096x256_S4096x256 (ix2 k d)
      = w (ix3 1 k d) := by
  pointwise

theorem cast_u (u : FVec Ideal S2x256x128 .f32) (d : Fin 256) (e : Fin 128) :
    shapeCast S256x128 (extractStridedSlice S1x256x128 ![1, 0, 0] u slices_S2x256x128_S1x256x128_1_0_0) shapeCasts_S1x256x128_S256x128 (ix2 d e)
      = u (ix3 1 d e) := by
  pointwise

theorem V_main_v12 (c : Dev nD) : V m c main_v12 = shapeCast S16x128x2048 (m ((c : Thread nD τ).loc main_arg0)) shapeCasts_S4x4x128x2048_S16x128x2048 := by
  dsimp only [V, hostOps0]; after_results; rfl

theorem V_main_v13 (c : Dev nD) : V m c main_v13 = shapeCast S16x128x2048 (m ((c : Thread nD τ).loc main_arg1)) shapeCasts_S4x4x128x2048_S16x128x2048 := by
  dsimp only [V, hostOps0]; after_results; rfl

theorem V_main_v14 (c : Dev nD) : V m c main_v14 = shapeCast S2x2048 (shapeCast S32x128 (extractStridedSlice S1x32x128 ![1, 0, 0] (m ((c : Thread nD τ).loc main_arg2)) slices_S2x32x128_S1x32x128_1_0_0)
      shapeCasts_S1x32x128_S32x128) shapeCasts_S32x128_S2x2048 := by
  dsimp only [V, hostOps0]; after_results; rfl

theorem V_main_v15 (c : Dev nD) : V m c main_v15 = shapeCast S2x2048 (shapeCast S32x128 (extractStridedSlice S1x32x128 ![1, 0, 0] (m ((c : Thread nD τ).loc main_arg5)) slices_S2x32x128_S1x32x128_1_0_0)
      shapeCasts_S1x32x128_S32x128) shapeCasts_S32x128_S2x2048 := by
  dsimp only [V, hostOps0]; after_results; rfl

theorem V_main_v3 (c : Dev nD) : V m c main_v3 = shapeCast S4096x256 (extractStridedSlice S1x4096x256 ![1, 0, 0] (m ((c : Thread nD τ).loc main_arg3)) slices_S2x4096x256_S1x4096x256_1_0_0)
      shapeCasts_S1x4096x256_S4096x256 := by
  dsimp only [V, hostOps0]; after_results; rfl

theorem V_main_v9 (c : Dev nD) : V m c main_v9 = shapeCast S4096x256 (extractStridedSlice S1x4096x256 ![1, 0, 0] (m ((c : Thread nD τ).loc main_arg6)) slices_S2x4096x256_S1x4096x256_1_0_0)
      shapeCasts_S1x4096x256_S4096x256 := by
  dsimp only [V, hostOps0]; after_results; rfl

theorem V_main_v5 (c : Dev nD) : V m c main_v5 = shapeCast S256x128 (extractStridedSlice S1x256x128 ![1, 0, 0] (m ((c : Thread nD τ).loc main_arg4)) slices_S2x256x128_S1x256x128_1_0_0)
      shapeCasts_S1x256x128_S256x128 := by
  dsimp only [V, hostOps0]; after_results; rfl

theorem V_main_v11 (c : Dev nD) : V m c main_v11 = shapeCast S256x128 (extractStridedSlice S1x256x128 ![1, 0, 0] (m ((c : Thread nD τ).loc main_arg7)) slices_S2x256x128_S1x256x128_1_0_0)
      shapeCasts_S1x256x128_S256x128 := by
  dsimp only [V, hostOps0]; after_results; rfl

/-- The grid's index maps: point `t` takes batch element and head `t`, and the weights whole. -/
theorem idx_facts : ∀ t : Fin cfg0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = 0 ∧ win0_6.index t 1 = 0) ∧ (win0_7.index t 0 = 0 ∧ win0_7.index t 1 = 0)
    ∧ (win0_8.index t 0 = t.val ∧ win0_8.index t 1 = 0 ∧ win0_8.index t 2 = 0)
    ∧ (win0_9.index t 0 = t.val ∧ win0_9.index t 1 = 0 ∧ win0_9.index t 2 = 0) :=
  (by decide +kernel : ∀ t : Fin grid0.N, _)

/-- The two results at this program's arguments. -/
abbrev G8 (c : Dev nD) : Buf (Elt Ideal) ((c : Thread nD τ).loc main_v16_0) :=
  res (m ((c : Thread nD τ).loc main_arg0)) (m ((c : Thread nD τ).loc main_arg2)) (m ((c : Thread nD τ).loc main_arg3)) (m ((c : Thread nD τ).loc main_arg4))
abbrev G9 (c : Dev nD) : Buf (Elt Ideal) ((c : Thread nD τ).loc main_v16_1) :=
  res (m ((c : Thread nD τ).loc main_arg1)) (m ((c : Thread nD τ).loc main_arg5)) (m ((c : Thread nD τ).loc main_arg6)) (m ((c : Thread nD τ).loc main_arg7))

/-- What point `t` writes back of the first result is its block of `res`. -/
theorem flushed_eq8 (c : Dev nD) (t : Fin cfg0.N) :
    (dats m 0 c).flushed 8 t = ((cfg0.win 8).blk t).view.read (Elt Ideal) (G8 m c) := by
  rw [Value.flushed8, out8]
  funext (j : S1x128x128.Idx)
  obtain ⟨⟨h00, h01, h02⟩, ⟨h10, h11, h12⟩, ⟨h20, h21⟩, ⟨h30, h31⟩, ⟨h40, h41⟩, ⟨h50, h51⟩, ⟨h60, h61⟩, ⟨h70, h71⟩, ⟨h80, h81, h82⟩, ⟨h90, h91, h92⟩⟩ := idx_facts t
  have hN : cfg0.N = 16 := N_0
  have ht : t.val < 16 := hN ▸ t.isLt
  have hj0 : (j 0).val < 1 := (j 0).isLt
  show k0_pay4 (k0_pay2 (iblk m c 0 t) (View.ld (iblk m c 2 t) r0_1) (View.ld (iblk m c 3 t) r0_2) (View.ld (iblk m c 2 t) r0_3)
    (View.ld (iblk m c 3 t) r0_4)) (k0_pay3 (iblk m c 4 t)) j = G8 m c (((cfg0.win 8).blk t).view.emb j)
  refine (block_apply (m ((c : Thread nD τ).loc main_arg0)) (m ((c : Thread nD τ).loc main_arg2)) (m ((c : Thread nD τ).loc main_arg3))
    (m ((c : Thread nD τ).loc main_arg4)) _ _ _ _ ⟨t.val, ht⟩ ?_ ?_ ?_ ?_ j).trans ?_
  · intro r k
    refine Eq.trans (congrArg (V m c main_v12) (funext fun a => Fin.ext ?_)) ((congrFun (V_main_v12 m c) _).trans (cast_x _ ⟨t.val, ht⟩ r k))
    match a with
    | ⟨0, _⟩ => show win0_0.index t 0 * 1 + 1 * 0 = t.val; rw [h00]; omega
    | ⟨1, _⟩ => show win0_0.index t 1 * 128 + 1 * r.val = r.val; rw [h01]; omega
    | ⟨2, _⟩ => show win0_0.index t 2 * 2048 + 1 * k.val = k.val; rw [h02]; omega
  · intro a k
    refine Eq.trans (congrArg (V m c main_v14) (funext fun b => Fin.ext ?_)) ((congrFun (V_main_v14 m c) _).trans (cast_p _ a k))
    match b with
    | ⟨0, _⟩ => show win0_2.index t 0 * 2 + 1 * a.val = a.val; rw [h20]; omega
    | ⟨1, _⟩ => show win0_2.index t 1 * 2048 + 1 * k.val = k.val; rw [h21]; omega
  · intro k d
    refine Eq.trans (congrArg (V m c main_v3) (funext fun b => Fin.ext ?_)) ((congrFun (V_main_v3 m c) _).trans (cast_w _ k d))
    match b with
    | ⟨0, _⟩ => show win0_3.index t 0 * 4096 + 1 * k.val = k.val; rw [h30]; omega
    | ⟨1, _⟩ => show win0_3.index t 1 * 256 + 1 * d.val = d.val; rw [h31]; omega
  · intro d e
    refine Eq.trans (congrArg (V m c main_v5) (funext fun b => Fin.ext ?_)) ((congrFun (V_main_v5 m c) _).trans (cast_u _ d e))
    match b with
    | ⟨0, _⟩ => show win0_4.index t 0 * 256 + 1 * d.val = d.val; rw [h40]; omega
    | ⟨1, _⟩ => show win0_4.index t 1 * 128 + 1 * e.val = e.val; rw [h41]; omega
  · refine congrArg (G8 m c) (funext fun a => Fin.ext ?_)
    match a with
    | ⟨0, _⟩ => show t.val = win0_8.index t 0 * 1 + 1 * (j 0).val; rw [h80]; omega
    | ⟨1, _⟩ => show (j 1).val = win0_8.index t 1 * 128 + 1 * (j 1).val; rw [h81]; omega
    | ⟨2, _⟩ => show (j 2).val = win0_8.index t 2 * 128 + 1 * (j 2).val; rw [h82]; omega

/-- The first result's blocks tile its array. -/
theorem cover8 (i : S16x128x128.Idx) :
    ∃ t : Fin cfg0.N, (cfg0.win 8).flush t = true ∧ i ∈ ((cfg0.win 8).blk t).view.set := by
  have h0 : (i 0 : Nat) < 16 := (i 0).isLt
  have h1 : (i 1 : Nat) < 128 := (i 1).isLt
  have h2 : (i 2 : Nat) < 128 := (i 2).isLt
  have hN : cfg0.N = 16 := N_0
  have ht : (i 0 : Nat) < cfg0.N := by omega
  refine ⟨⟨_, ht⟩, flush0_8 _, ?_⟩
  obtain ⟨-, -, -, -, -, -, -, -, ⟨h80, h81, h82⟩, ⟨h90, h91, h92⟩⟩ := idx_facts ⟨_, ht⟩
  show i ∈ ((View.whole main_v16_0).slice (win0_8.rect ⟨_, ht⟩)).set
  rw [View.set_slice_whole, Rect.mem_set_unit]
  intro a
  match a with
  | ⟨0, _⟩ =>
    show win0_8.index ⟨_, ht⟩ 0 * 1 ≤ (i 0 : Nat) ∧ (i 0 : Nat) < win0_8.index ⟨_, ht⟩ 0 * 1 + 1
    rw [h80]; dsimp only; omega
  | ⟨1, _⟩ =>
    show win0_8.index ⟨_, ht⟩ 1 * 128 ≤ (i 1 : Nat) ∧ (i 1 : Nat) < win0_8.index ⟨_, ht⟩ 1 * 128 + 128
    rw [h81]; omega
  | ⟨2, _⟩ =>
    show win0_8.index ⟨_, ht⟩ 2 * 128 ≤ (i 2 : Nat) ∧ (i 2 : Nat) < win0_8.index ⟨_, ht⟩ 2 * 128 + 128
    rw [h82]; omega

/-- The first result after the run. -/
theorem final8 (c : Dev nD) : (dats m 0 c).arrAt 8 cfg0.N = G8 m c :=
  (dats m 0 c).arrAt_eq_of_cover 8 (G8 m c) (fun t _ => flushed_eq8 m c t) cover8

/-- What point `t` writes back of the second result is its block of `res`. -/
theorem flushed_eq9 (c : Dev nD) (t : Fin cfg0.N) :
    (dats m 0 c).flushed 9 t = ((cfg0.win 9).blk t).view.read (Elt Ideal) (G9 m c) := by
  rw [Value.flushed9, out9]
  funext (j : S1x128x128.Idx)
  obtain ⟨⟨h00, h01, h02⟩, ⟨h10, h11, h12⟩, ⟨h20, h21⟩, ⟨h30, h31⟩, ⟨h40, h41⟩, ⟨h50, h51⟩, ⟨h60, h61⟩, ⟨h70, h71⟩, ⟨h80, h81, h82⟩, ⟨h90, h91, h92⟩⟩ := idx_facts t
  have hN : cfg0.N = 16 := N_0
  have ht : t.val < 16 := hN ▸ t.isLt
  have hj0 : (j 0).val < 1 := (j 0).isLt
  show k0_pay4 (k0_pay2 (iblk m c 1 t) (View.ld (iblk m c 5 t) r0_1) (View.ld (iblk m c 6 t) r0_2) (View.ld (iblk m c 5 t) r0_3)
    (View.ld (iblk m c 6 t) r0_4)) (k0_pay3 (iblk m c 7 t)) j = G9 m c (((cfg0.win 9).blk t).view.emb j)
  refine (block_apply (m ((c : Thread nD τ).loc main_arg1)) (m ((c : Thread nD τ).loc main_arg5)) (m ((c : Thread nD τ).loc main_arg6))
    (m ((c : Thread nD τ).loc main_arg7)) _ _ _ _ ⟨t.val, ht⟩ ?_ ?_ ?_ ?_ j).trans ?_
  · intro r k
    refine Eq.trans (congrArg (V m c main_v13) (funext fun a => Fin.ext ?_)) ((congrFun (V_main_v13 m c) _).trans (cast_x _ ⟨t.val, ht⟩ r k))
    match a with
    | ⟨0, _⟩ => show win0_1.index t 0 * 1 + 1 * 0 = t.val; rw [h10]; omega
    | ⟨1, _⟩ => show win0_1.index t 1 * 128 + 1 * r.val = r.val; rw [h11]; omega
    | ⟨2, _⟩ => show win0_1.index t 2 * 2048 + 1 * k.val = k.val; rw [h12]; omega
  · intro a k
    refine Eq.trans (congrArg (V m c main_v15) (funext fun b => Fin.ext ?_)) ((congrFun (V_main_v15 m c) _).trans (cast_p _ a k))
    match b with
    | ⟨0, _⟩ => show win0_5.index t 0 * 2 + 1 * a.val = a.val; rw [h50]; omega
    | ⟨1, _⟩ => show win0_5.index t 1 * 2048 + 1 * k.val = k.val; rw [h51]; omega
  · intro k d
    refine Eq.trans (congrArg (V m c main_v9) (funext fun b => Fin.ext ?_)) ((congrFun (V_main_v9 m c) _).trans (cast_w _ k d))
    match b with
    | ⟨0, _⟩ => show win0_6.index t 0 * 4096 + 1 * k.val = k.val; rw [h60]; omega
    | ⟨1, _⟩ => show win0_6.index t 1 * 256 + 1 * d.val = d.val; rw [h61]; omega
  · intro d e
    refine Eq.trans (congrArg (V m c main_v11) (funext fun b => Fin.ext ?_)) ((congrFun (V_main_v11 m c) _).trans (cast_u _ d e))
    match b with
    | ⟨0, _⟩ => show win0_7.index t 0 * 256 + 1 * d.val = d.val; rw [h70]; omega
    | ⟨1, _⟩ => show win0_7.index t 1 * 128 + 1 * e.val = e.val; rw [h71]; omega
  · refine congrArg (G9 m c) (funext fun a => Fin.ext ?_)
    match a with
    | ⟨0, _⟩ => show t.val = win0_9.index t 0 * 1 + 1 * (j 0).val; rw [h90]; omega
    | ⟨1, _⟩ => show (j 1).val = win0_9.index t 1 * 128 + 1 * (j 1).val; rw [h91]; omega
    | ⟨2, _⟩ => show (j 2).val = win0_9.index t 2 * 128 + 1 * (j 2).val; rw [h92]; omega

/-- The second result's blocks tile its array. -/
theorem cover9 (i : S16x128x128.Idx) :
    ∃ t : Fin cfg0.N, (cfg0.win 9).flush t = true ∧ i ∈ ((cfg0.win 9).blk t).view.set := by
  have h0 : (i 0 : Nat) < 16 := (i 0).isLt
  have h1 : (i 1 : Nat) < 128 := (i 1).isLt
  have h2 : (i 2 : Nat) < 128 := (i 2).isLt
  have hN : cfg0.N = 16 := N_0
  have ht : (i 0 : Nat) < cfg0.N := by omega
  refine ⟨⟨_, ht⟩, flush0_9 _, ?_⟩
  obtain ⟨-, -, -, -, -, -, -, -, ⟨h80, h81, h82⟩, ⟨h90, h91, h92⟩⟩ := idx_facts ⟨_, ht⟩
  show i ∈ ((View.whole main_v16_1).slice (win0_9.rect ⟨_, ht⟩)).set
  rw [View.set_slice_whole, Rect.mem_set_unit]
  intro a
  match a with
  | ⟨0, _⟩ =>
    show win0_9.index ⟨_, ht⟩ 0 * 1 ≤ (i 0 : Nat) ∧ (i 0 : Nat) < win0_9.index ⟨_, ht⟩ 0 * 1 + 1
    rw [h90]; dsimp only; omega
  | ⟨1, _⟩ =>
    show win0_9.index ⟨_, ht⟩ 1 * 128 ≤ (i 1 : Nat) ∧ (i 1 : Nat) < win0_9.index ⟨_, ht⟩ 1 * 128 + 128
    rw [h91]; omega
  | ⟨2, _⟩ =>
    show win0_9.index ⟨_, ht⟩ 2 * 128 ≤ (i 2 : Nat) ∧ (i 2 : Nat) < win0_9.index ⟨_, ht⟩ 2 * 128 + 128
    rw [h92]; omega

/-- The second result after the run. -/
theorem final9 (c : Dev nD) : (dats m 0 c).arrAt 9 cfg0.N = G9 m c :=
  (dats m 0 c).arrAt_eq_of_cover 9 (G9 m c) (fun t _ => flushed_eq9 m c t) cover9

/-- An index the mask selects is at a row that is a block. -/
theorem row_lt (i : S16x128x128.Idx) (h : IntOp.cmpi CmpIPredicate.slt (BitVec.ofNat 32 (i 1).val) 127#32 = 1#1) : (i 1).val < 127 := by
  have hk : ∀ a : Fin 128, IntOp.cmpi CmpIPredicate.slt (BitVec.ofNat 32 a.val) 127#32 = 1#1 → a.val < 127 := by decide +kernel
  exact hk (i 1) h

end Cert.Kernel8Ideal.Compress

namespace Cert.Proof

/-- The kernel's two results are the reference's at every row that is a block. -/
theorem algebraic8 [Cert.On_blocks.Facts] : Cert.algebraic_Kernel8Ideal_Reference8Ideal_on_blocks := by
  intro m g m' g' _ h
  refine ⟨fun c => Cert.Kernel8Ideal.Compress.G8 m c, fun c => Cert.Kernel8Ideal.Compress.G9 m c, ?_, ?_⟩
  · exact (θ_run Cert.Kernel8Ideal.defs _ _).mono (fun r hr c =>
      ⟨fun i _ => congrFun ((hr c).1.trans (Cert.Kernel8Ideal.Compress.final8 m c)) i,
        fun i _ => congrFun ((hr c).2.1.trans (Cert.Kernel8Ideal.Compress.final9 m c)) i, (hr c).2.2⟩) (Cert.Kernel8Ideal.Value.run_blocks (F := Ideal) m g)
  · refine (θ_run Cert.Reference8Ideal.defs _ _).mono (fun r hr c => ⟨fun i hi => ?_, fun i hi => ?_, (hr c).2.2⟩)
      (Cert.Reference8Ideal.Value.run (F := Ideal) m' g')
    · obtain ⟨e0, -, e2, e3, e4, -⟩ := h c
      refine (congrFun (hr c).1 i).trans ((congrFun (Cert.Reference8Ideal.Read.val_main_v43_eq m' c) i).trans ?_)
      rw [e0, e2, e3, e4]
      exact Cert.Kernel8Ideal.Compress.ref_apply _ _ _ _ i (Cert.Kernel8Ideal.Compress.row_lt i hi)
    · obtain ⟨-, e1, -, -, -, e5, e6, e7⟩ := h c
      refine (congrFun (hr c).2.1 i).trans ((congrFun (Cert.Reference8Ideal.Read.val_main_v78_eq m' c) i).trans ?_)
      rw [e1, e5, e6, e7, Cert.Kernel8Ideal.Compress.ref_eq]
      exact Cert.Kernel8Ideal.Compress.ref_apply _ _ _ _ i (Cert.Kernel8Ideal.Compress.row_lt i hi)

end Cert.Proof

end
-- ==== Proof.FfnNorm.lean ====
/-
  THE RMS NORM BEFORE THE FEED-FORWARD PART (`Kernel9Ideal`), the second layer's, rounded to bf16: a point normalizes 256 whole rows; a row of the result depends on that row alone, so the
  blocks written back are the blocks of the reference's normalized array.
-/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import Idealize.ShloMosaic.Lib.Pipeline.Value
public import Idealize.ShloMosaic.Lib.StableHlo.Run
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel9Ideal.FfnNorm

open Cert.Kernel9Ideal Cert.Kernel9Ideal.Gen

variable (m : (ℓ : Loc nD τ sig) → Buf (Elt Ideal) ℓ) (ρ : Dev nD → PrngReg)

theorem hz : (![0, 0] : Fin 2 → Nat) = fun _ => 0 := funext fun a => by fin_cases a <;> rfl

/-- One element of a normalized row: the element, times the reciprocal root of the row's mean square plus 1e-6, times the weight. -/
def norm1 (x : EReal) (row : Fin 4096 → EReal) (w : EReal) : EReal :=
  x * Ideal.rsqrt (Ideal.div (∑ k : Fin 4096, row k * row k) (Ideal.ofBits .f32 0x45800000#32) + Ideal.ofBits .f32 0x358637BD#32) * w

/-- The body's payload at an index. -/
theorem pay_apply (x : Vec Ideal S256x4096 .f32) (w : Vec Ideal S1x4096 .f32) (j : S256x4096.Idx) :
    k0_pay1 x w j = norm1 (x j) (fun k => x (ix2 (j 0) k)) (w (ix2 0 (j 1))) := by
  pointwise [k0_pay1, norm1]

/-- The reference at an index. -/
theorem ref_apply (x : FVec Ideal S8192x4096 .f32) (w : FVec Ideal S2x4096 .f32) (i : S8192x4096.Idx) :
    Cert.Reference9Ideal.Read.val_main_v15 (F := Ideal) x w i = norm1 (x i) (fun k => x (ix2 (i 0) k)) (w (ix2 1 (i 1))) := by
  unfold Cert.Reference9Ideal.Read.val_main_v15 Cert.Reference9Ideal.Read.val_main_v14 Cert.Reference9Ideal.Read.val_main_v13 Cert.Reference9Ideal.Read.val_main_v12
    Cert.Reference9Ideal.Read.val_main_v11 Cert.Reference9Ideal.Read.val_main_v10 Cert.Reference9Ideal.Read.val_main_v9 Cert.Reference9Ideal.Read.val_main_v8
    Cert.Reference9Ideal.Read.val_main_v7 Cert.Reference9Ideal.Read.val_main_v6 Cert.Reference9Ideal.Read.val_main_v5 Cert.Reference9Ideal.Read.val_main_v4
    Cert.Reference9Ideal.Read.val_main_v3 Cert.Reference9Ideal.Read.val_main_v2 Cert.Reference9Ideal.Read.val_main_v1 Cert.Reference9Ideal.Read.val_main_v0
    Cert.Reference9Ideal.Read.val_main_cst Cert.Reference9Ideal.Read.val_main_cst_0 Cert.Reference9Ideal.Read.val_main_cst_1
  pointwise [norm1]

/-- The second layer's weight as one row, at an index. -/
theorem row_apply (w : FVec Ideal S2x4096 .f32) (k : Fin 4096) :
    shapeCast S1x4096 (shapeCast S4096 (extractStridedSlice S1x4096 ![1, 0] w slices_S2x4096_S1x4096_1_0) shapeCasts_S1x4096_S4096)
      shapeCasts_S4096_S1x4096 (ix2 0 k) = w (ix2 1 k) := by
  pointwise

/-- The weight as the launch finds it: the argument's second row, as one row. -/
theorem V_main_v2 (c : Dev nD) : V m c main_v2 = shapeCast S1x4096 (shapeCast S4096 (extractStridedSlice S1x4096 ![1, 0]
    (m ((c : Thread nD τ).loc main_arg1)) slices_S2x4096_S1x4096_1_0) shapeCasts_S1x4096_S4096) shapeCasts_S4096_S1x4096 := by
  dsimp only [V, hostOps0]
  after_results
  rfl

/-- The whole result: the reference's value at this program's arguments. -/
abbrev G (c : Dev nD) : Buf (Elt Ideal) ((c : Thread nD τ).loc main_v3) :=
  Cert.Reference9Ideal.Read.val_main_v15 (F := Ideal) (m ((c : Thread nD τ).loc main_arg0)) (m ((c : Thread nD τ).loc main_arg1))

/-- The grid's index maps: a point's rows in and rows out are one block; every point reads the whole weight. -/
theorem idx_facts : ∀ t : Fin cfg0.N, (win0_0.index t 0 = t.val ∧ win0_0.index t 1 = 0)
    ∧ (win0_1.index t 0 = 0 ∧ win0_1.index t 1 = 0) ∧ win0_2.index t 0 = t.val ∧ win0_2.index t 1 = 0 :=
  (by decide +kernel : ∀ t : Fin grid0.N, _)

/-- What point `t` writes back is its block of the reference's value. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero (S := S256x4096) hz, View.ld_unit_zero (S := S1x4096) hz]
  funext (j : S256x4096.Idx)
  obtain ⟨⟨h00, h01⟩, ⟨h10, h11⟩, h20, h21⟩ := idx_facts t
  show k0_pay1 (iblk m c 0 t) (iblk m c 1 t) j = G m c (((cfg0.win 2).blk t).view.emb j)
  refine (pay_apply _ _ j).trans (Eq.trans ?_ (ref_apply _ _ _).symm)
  have e0 : ∀ k : Fin 4096, iblk m c 0 t (ix2 (j 0) k) = m ((c : Thread nD τ).loc main_arg0) (ix2 (((cfg0.win 2).blk t).view.emb j 0) k) := fun k => by
    show V m c main_arg0 _ = _
    rw [V_main_arg0]
    refine congrArg (m ((c : Thread nD τ).loc main_arg0)) (funext fun a => Fin.ext ?_)
    match a with
    | ⟨0, _⟩ => show win0_0.index t 0 * 256 + 1 * (j 0).val = win0_2.index t 0 * 256 + 1 * (j 0).val; rw [h00, h20]
    | ⟨1, _⟩ => show win0_0.index t 1 * 4096 + 1 * k.val = k.val; rw [h01]; omega
  have e1 : iblk m c 0 t j = m ((c : Thread nD τ).loc main_arg0) (((cfg0.win 2).blk t).view.emb j) := by
    show V m c main_arg0 _ = _
    rw [V_main_arg0]
    refine congrArg (m ((c : Thread nD τ).loc main_arg0)) (funext fun a => Fin.ext ?_)
    match a with
    | ⟨0, _⟩ => show win0_0.index t 0 * 256 + 1 * (j 0).val = win0_2.index t 0 * 256 + 1 * (j 0).val; rw [h00, h20]
    | ⟨1, _⟩ => show win0_0.index t 1 * 4096 + 1 * (j 1).val = win0_2.index t 1 * 4096 + 1 * (j 1).val; rw [h01, h21]
  have e2 : iblk m c 1 t (ix2 0 (j 1)) = m ((c : Thread nD τ).loc main_arg1) (ix2 1 (((cfg0.win 2).blk t).view.emb j 1)) := by
    refine Eq.trans (congrArg (V m c main_v2) (funext fun a => Fin.ext ?_)) ((congrFun (V_main_v2 m c) (ix2 0 (((cfg0.win 2).blk t).view.emb j 1))).trans (row_apply _ _))
    match a with
    | ⟨0, _⟩ => show win0_1.index t 0 * 1 + 1 * 0 = 0; rw [h10]
    | ⟨1, _⟩ => show win0_1.index t 1 * 4096 + 1 * (j 1).val = win0_2.index t 1 * 4096 + 1 * (j 1).val; rw [h11, h21]
  exact congr (congr (congrArg norm1 e1) (funext e0)) e2

/-- The result's blocks tile its array. -/
theorem cover (i : S8192x4096.Idx) :
    ∃ t : Fin cfg0.N, (cfg0.win 2).flush t = true ∧ i ∈ ((cfg0.win 2).blk t).view.set := by
  have h0 : (i 0 : Nat) < 8192 := (i 0).isLt
  have h1 : (i 1 : Nat) < 4096 := (i 1).isLt
  have hN : cfg0.N = 32 := N_0
  have ht : (i 0 : Nat) / 256 < cfg0.N := by omega
  refine ⟨⟨_, ht⟩, flush0_2 _, ?_⟩
  obtain ⟨-, -, h20, h21⟩ := idx_facts ⟨_, ht⟩
  show i ∈ ((View.whole main_v3).slice (win0_2.rect ⟨_, ht⟩)).set
  rw [View.set_slice_whole, Rect.mem_set_unit]
  intro a
  match a with
  | ⟨0, _⟩ =>
    show win0_2.index ⟨_, ht⟩ 0 * 256 ≤ (i 0 : Nat) ∧ (i 0 : Nat) < win0_2.index ⟨_, ht⟩ 0 * 256 + 256
    rw [h20]; dsimp only; omega
  | ⟨1, _⟩ =>
    show win0_2.index ⟨_, ht⟩ 1 * 4096 ≤ (i 1 : Nat) ∧ (i 1 : Nat) < win0_2.index ⟨_, ht⟩ 1 * 4096 + 4096
    rw [h21]; dsimp only; omega

/-- The result array after the run. -/
theorem final (c : Dev nD) : (dats m 0 c).arrAt 2 cfg0.N = G m c :=
  (dats m 0 c).arrAt_eq_of_cover 2 (G m c) (fun t _ => flushed_eq m c t) cover

end Cert.Kernel9Ideal.FfnNorm

namespace Cert.Proof

/-- The kernel's result is the reference's. -/
theorem algebraic9 : Cert.algebraic_Kernel9Ideal_Reference9Ideal := by
  intro m g m' g' _ h
  refine ⟨fun c => Cert.Kernel9Ideal.FfnNorm.G m c, ?_, ?_⟩
  · exact (θ_run Cert.Kernel9Ideal.defs _ _).mono (fun r hr c => ⟨(hr c).1.trans (Cert.Kernel9Ideal.FfnNorm.final m c), (hr c).2⟩)
      (Cert.Kernel9Ideal.Value.run_blocks (F := Ideal) m g)
  · refine (θ_run Cert.Reference9Ideal.defs _ _).mono (fun r hr c => ⟨(hr c).1.trans ?_, (hr c).2⟩)
      (Cert.Reference9Ideal.Value.run (F := Ideal) m' g')
    obtain ⟨e0, e1⟩ := h c
    rw [e0, e1]
    exact Cert.Reference9Ideal.Read.val_main_v15_eq _ _

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.On_blocks
public import proofs.«01_k».proof.Proof.InprojRec
public import proofs.«01_k».proof.Proof.InprojNsa
public import proofs.«01_k».proof.Proof.OutProj
public import proofs.«01_k».proof.Proof.GateUp
public import proofs.«01_k».proof.Proof.Down
public import proofs.«01_k».proof.Proof.FinalNorm
public import proofs.«01_k».proof.Proof.NormSmall
public import proofs.«01_k».proof.Proof.Compress
public import proofs.«01_k».proof.Proof.FfnNorm
public import Idealize.ShloMosaic.Adequacy
public import Idealize.ShloMosaic.Init

@[expose] public section

noncomputable section

namespace Cert.Proof

open Idealize.ShloMosaic Idealize.SL.Sem Cert.Kernel

/-- The reference of program 1 declares no semaphore; its arguments are only read. -/
theorem frame_ref1 : Cert.quiescent_ReferenceIdeal := fun m ρ _ =>
  (θ_run Cert.ReferenceIdeal.defs _ _).mono (fun r h => ⟨fun c => (h c).2.2.2.2.2.2.2.2, sem_eq_zero_of_no_sems (by decide) r.2⟩)
    (Cert.ReferenceIdeal.Value.run (F := Ideal) m ρ)
/-- The reference of program 2 declares no semaphore; its arguments are only read. -/
theorem frame_ref2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)
/-- The reference of program 3 declares no semaphore; its arguments are only read. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)
/-- The reference of program 4 declares no semaphore; its arguments are only read. -/
theorem frame_ref4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)
/-- The reference of program 5 declares no semaphore; its arguments are only read. -/
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)
/-- The reference of program 6 declares no semaphore; its arguments are only read. -/
theorem frame_ref6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
/-- The reference of program 7 declares no semaphore; its arguments are only read. -/
theorem frame_ref7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)
/-- The reference of program 8 declares no semaphore; its arguments are only read. -/
theorem frame_ref8 : Cert.quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)
/-- The reference of program 9 declares no semaphore; its arguments are only read. -/
theorem frame_ref9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- Every claim: each program's frames, and its call's results against the reference's lines. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.On_blocks.Gen.facts,
  fun m ρ _ => Cert.Kernel.Gen.frame m ρ,
  fun m ρ _ => Cert.KernelIdeal.Gen.frame m ρ,
  frame_ref1,
  fun m ρ _ => Cert.Kernel2.Gen.frame m ρ,
  fun m ρ _ => Cert.Kernel2Ideal.Gen.frame m ρ,
  frame_ref2,
  fun m ρ _ => Cert.Kernel3.Gen.frame m ρ,
  fun m ρ _ => Cert.Kernel3Ideal.Gen.frame m ρ,
  frame_ref3,
  fun m ρ _ => Cert.Kernel4.Gen.frame m ρ,
  fun m ρ _ => Cert.Kernel4Ideal.Gen.frame m ρ,
  frame_ref4,
  fun m ρ _ => Cert.Kernel5.Gen.frame m ρ,
  fun m ρ _ => Cert.Kernel5Ideal.Gen.frame m ρ,
  frame_ref5,
  fun m ρ _ => Cert.Kernel6.Gen.frame m ρ,
  fun m ρ _ => Cert.Kernel6Ideal.Gen.frame m ρ,
  frame_ref6,
  fun m ρ _ => Cert.Kernel7.Gen.frame m ρ,
  fun m ρ _ => Cert.Kernel7Ideal.Gen.frame m ρ,
  frame_ref7,
  fun m ρ _ => Cert.Kernel8.Gen.frame m ρ,
  fun m ρ _ => Cert.Kernel8Ideal.Gen.frame m ρ,
  frame_ref8,
  fun m ρ _ => Cert.Kernel9.Gen.frame m ρ,
  fun m ρ _ => Cert.Kernel9Ideal.Gen.frame m ρ,
  frame_ref9,
  trivial,
  algebraic1,
  trivial,
  algebraic2,
  trivial,
  algebraic3,
  trivial,
  algebraic4,
  trivial,
  algebraic5,
  trivial,
  algebraic6,
  trivial,
  algebraic7,
  trivial,
  algebraic8,
  trivial,
  algebraic9⟩

end Cert.Proof

end
